-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_negative_nan [hPre_no_negative_nan : Cert.Pre_no_negative_nan.Facts] (m : (ℓ : Loc Cert.KernelIdeal.nD Cert.KernelIdeal.τ Cert.KernelIdeal.sig) → Buf (Elt Ideal) ℓ) : Prop :=
  ∀ c : Dev Cert.KernelIdeal.nD,
    (Cert.Pre_no_negative_nan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_negative_nan [hPre_no_negative_nan : Cert.Pre_no_negative_nan.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_negative_nan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_no_negative_nan [hKernelIdeal : Cert.KernelIdeal.Facts] [hPre_no_negative_nan : Cert.Pre_no_negative_nan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_negative_nan m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_negative_nan [hReferenceIdeal : Cert.ReferenceIdeal.Facts] [hPre_no_negative_nan : Cert.Pre_no_negative_nan.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_negative_nan m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S256x2x512 Cert.KernelIdeal.S256x1x512
  ∧ IdealRules.bf16_pair.PackStatement Cert.KernelIdeal.S16x512
  ∧ IdealRules.bf16_pair.Statement Cert.KernelIdeal.S16x2x512 Cert.KernelIdeal.S16x1x512
  ∧ IdealRules.bf16_pair.Statement Cert.KernelIdeal.S1x2x512 Cert.KernelIdeal.S1x1x512
  ∧ IdealRules.bf16_pair.Statement Cert.KernelIdeal.S16x512 Cert.KernelIdeal.S8x512

def algebraic_KernelIdeal_ReferenceIdeal_pre_no_negative_nan [hKernelIdeal : Cert.KernelIdeal.Facts] [hReferenceIdeal : Cert.ReferenceIdeal.Facts] [hPre_no_negative_nan : Cert.Pre_no_negative_nan.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_negative_nan m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_negative_nan : Cert.Pre_no_negative_nan.Facts),
    quiescent_Kernel (hKernel := hKernel)
    ∧ quiescent_KernelIdeal (hKernelIdeal := hKernelIdeal)
    ∧ quiescent_KernelIdeal_pre_no_negative_nan (hKernelIdeal := hKernelIdeal) (hPre_no_negative_nan := hPre_no_negative_nan)
    ∧ quiescent_ReferenceIdeal (hReferenceIdeal := hReferenceIdeal)
    ∧ quiescent_ReferenceIdeal_pre_no_negative_nan (hReferenceIdeal := hReferenceIdeal) (hPre_no_negative_nan := hPre_no_negative_nan)
    ∧ preserves_Kernel_KernelIdeal
    ∧ algebraic_KernelIdeal_ReferenceIdeal_pre_no_negative_nan (hKernelIdeal := hKernelIdeal) (hReferenceIdeal := hReferenceIdeal) (hPre_no_negative_nan := hPre_no_negative_nan)
-- ==== Pre_no_negative_nan.lean ====
abbrev S48x1x16384 : Shape := ⟨3, ![48, 1, 16384]⟩
abbrev S8192x64x2x64 : Shape := ⟨4, ![8192, 64, 2, 64]⟩
abbrev S8192x64x2x32 : Shape := ⟨4, ![8192, 64, 2, 32]⟩
abbrev S8192x64x16 : Shape := ⟨3, ![8192, 64, 16]⟩
abbrev S8192x64 : Shape := ⟨2, ![8192, 64]⟩
abbrev S_ : Shape := ⟨0, ![]⟩

class Facts : Prop where
  bcast_S_S8192x64 : S_.BroadcastsInDim S8192x64 (![] : Fin 0 → Fin S8192x64.rank)

variable [Facts]

def fn {F : FTy → Type} [FloatOps F] (main_arg0 : FVec F S48x1x16384 .bf16) (main_arg1 : IVec S8192x64x2x64 8) (main_arg2 : IVec S8192x64x2x32 8) (main_arg3 : IVec S8192x64x16 8) (main_arg4 : IVec S8192x64 16) : IVec S8192x64 1 :=
  let main_c : IVec S_ 16 := constantI S_ 16 0#16
  let main_v0 : IVec S8192x64 16 := broadcastInDim S8192x64 ![] bcast_S_S8192x64 main_c
  let main_v1 : IVec S8192x64 1 := cmpi .sge main_arg4 main_v0
  let main_c_0 : IVec S_ 16 := constantI S_ 16 64512#16
  let main_v2 : IVec S8192x64 16 := broadcastInDim S8192x64 ![] bcast_S_S8192x64 main_c_0
  let main_v3 : IVec S8192x64 1 := cmpi .sle main_arg4 main_v2
  let main_v4 : IVec S8192x64 1 := ori main_v1 main_v3
  main_v4
-- ==== Kernel.lean ====
abbrev S48x1x16384 : Shape := ⟨3, ![48, 1, 16384]⟩
abbrev S8192x64x2x64 : Shape := ⟨4, ![8192, 64, 2, 64]⟩
abbrev S8192x64x2x32 : Shape := ⟨4, ![8192, 64, 2, 32]⟩
abbrev S8192x64x16 : Shape := ⟨3, ![8192, 64, 16]⟩
abbrev S8192x64 : Shape := ⟨2, ![8192, 64]⟩
abbrev S48x16384 : Shape := ⟨2, ![48, 16384]⟩
abbrev S64x2x64x8192 : Shape := ⟨4, ![64, 2, 64, 8192]⟩
abbrev S8192x8192 : Shape := ⟨2, ![8192, 8192]⟩
abbrev S64x2x32x8192 : Shape := ⟨4, ![64, 2, 32, 8192]⟩
abbrev S4096x8192 : Shape := ⟨2, ![4096, 8192]⟩
abbrev S64x16x8192 : Shape := ⟨3, ![64, 16, 8192]⟩
abbrev S64x8192 : Shape := ⟨2, ![64, 8192]⟩
abbrev S48x8192 : Shape := ⟨2, ![48, 8192]⟩
abbrev S2048x512 : Shape := ⟨2, ![2048, 512]⟩
abbrev S1024x512 : Shape := ⟨2, ![1024, 512]⟩
abbrev S16x16x512 : Shape := ⟨3, ![16, 16, 512]⟩
abbrev S16x512 : Shape := ⟨2, ![16, 512]⟩
abbrev S48x512 : Shape := ⟨2, ![48, 512]⟩
abbrev S256x512 : Shape := ⟨2, ![256, 512]⟩
abbrev S1x16x512 : Shape := ⟨3, ![1, 16, 512]⟩
abbrev S1x512 : Shape := ⟨2, ![1, 512]⟩
abbrev S32x512 : Shape := ⟨2, ![32, 512]⟩
abbrev S8x512 : Shape := ⟨2, ![8, 512]⟩
abbrev S48x256 : Shape := ⟨2, ![48, 256]⟩

abbrev nBuf : Space → Nat
  | .hbm => 13
  | .vmem => 13
  | .smem => 0
  | _ => 0

abbrev bufTy : (tb : Table) → Fin (tcTables nBuf tb) → BufTy
  | .hbm, ⟨0, _⟩ => ⟨S48x1x16384, .bf16⟩
  | .hbm, ⟨1, _⟩ => ⟨S8192x64x2x64, .i8⟩
  | .hbm, ⟨2, _⟩ => ⟨S8192x64x2x32, .i8⟩
  | .hbm, ⟨3, _⟩ => ⟨S8192x64x16, .i8⟩
  | .hbm, ⟨4, _⟩ => ⟨S8192x64, .i16⟩
  | .hbm, ⟨5, _⟩ => ⟨S48x16384, .bf16⟩
  | .hbm, ⟨6, _⟩ => ⟨S64x2x64x8192, .i8⟩
  | .hbm, ⟨7, _⟩ => ⟨S8192x8192, .i8⟩
  | .hbm, ⟨8, _⟩ => ⟨S64x2x32x8192, .i8⟩
  | .hbm, ⟨9, _⟩ => ⟨S4096x8192, .i8⟩
  | .hbm, ⟨10, _⟩ => ⟨S64x16x8192, .i8⟩
  | .hbm, ⟨11, _⟩ => ⟨S64x8192, .i16⟩
  | .hbm, ⟨12, _⟩ => ⟨S48x8192, .bf16⟩
  | .local _ .vmem, ⟨0, _⟩ => ⟨S48x16384, .bf16⟩
  | .local _ .vmem, ⟨1, _⟩ => ⟨S2048x512, .i8⟩
  | .local _ .vmem, ⟨2, _⟩ => ⟨S2048x512, .i8⟩
  | .local _ .vmem, ⟨3, _⟩ => ⟨S1024x512, .i8⟩
  | .local _ .vmem, ⟨4, _⟩ => ⟨S1024x512, .i8⟩
  | .local _ .vmem, ⟨5, _⟩ => ⟨S16x16x512, .i8⟩
  | .local _ .vmem, ⟨6, _⟩ => ⟨S16x16x512, .i8⟩
  | .local _ .vmem, ⟨7, _⟩ => ⟨S16x512, .i16⟩
  | .local _ .vmem, ⟨8, _⟩ => ⟨S16x512, .i16⟩
  | .local _ .vmem, ⟨9, _⟩ => ⟨S48x512, .bf16⟩
  | .local _ .vmem, ⟨10, _⟩ => ⟨S48x512, .bf16⟩
  | .local _ .vmem, ⟨11, _⟩ => ⟨S48x512, .f32⟩
  | .local _ .vmem, ⟨12, _⟩ => ⟨S256x512, .i32⟩
  | _, _ => ⟨S48x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨2, ![16, 4], ![false, false]⟩

@[reducible] def k0_t1_loop : Scf.Loop 32 :=
  let c0_i32_58 : BitVec 32 := 0#32
  let c16_i32 : BitVec 32 := 16#32
  let v195 : BitVec 32 := Scalar.addi c0_i32_58 c16_i32
  let c1_i32 : BitVec 32 := 1#32
  ⟨c0_i32_58, v195, c1_i32⟩
def k0_mult1 (k0_t1 : Fin k0_t1_loop.trips) : BitVec 32 :=
  let c0_i32_58 : BitVec 32 := 0#32
  let c1_i32 : BitVec 32 := 1#32
  let arg10 : BitVec 32 := Scf.iv c0_i32_58 c1_i32 k0_t1
  let c128_i32 : BitVec 32 := 128#32
  let v203 : BitVec 32 := Scalar.muli arg10 c128_i32
  let c0_i32_63 : BitVec 32 := 0#32
  let v204 : BitVec 32 := Scalar.addi v203 c0_i32_63
  v204
def k0_off1 (k0_t1 : Fin k0_t1_loop.trips) (c0_i32_63 : BitVec 32) : Fin 2 → Nat :=
  let c0_i32_58 : BitVec 32 := 0#32
  let c1_i32 : BitVec 32 := 1#32
  let arg10 : BitVec 32 := Scf.iv c0_i32_58 c1_i32 k0_t1
  let c128_i32 : BitVec 32 := 128#32
  let v203 : BitVec 32 := Scalar.muli arg10 c128_i32
  let v204 : BitVec 32 := Scalar.addi v203 c0_i32_63
  let v205 : BitVec 32 := v204
  let v206 : Index := Scalar.indexCast v205
  let c0_64 : Index := 0#32
  ![v206.toNat, 0]
def k0_off2 (k0_t1 : Fin k0_t1_loop.trips) (c0_i32_63 : BitVec 32) : Fin 2 → Nat :=
  let c0_i32_58 : BitVec 32 := 0#32
  let c1_i32 : BitVec 32 := 1#32
  let arg10 : BitVec 32 := Scf.iv c0_i32_58 c1_i32 k0_t1
  let c128_i32 : BitVec 32 := 128#32
  let v203 : BitVec 32 := Scalar.muli arg10 c128_i32
  let v204 : BitVec 32 := Scalar.addi v203 c0_i32_63
  let v205 : BitVec 32 := v204
  let c32_i32 : BitVec 32 := 32#32
  let v210 : BitVec 32 := Scalar.addi v205 c32_i32
  let v211 : Index := Scalar.indexCast v210
  let c0_65 : Index := 0#32
  ![v211.toNat, 0]
def k0_mult2 (k0_t1 : Fin k0_t1_loop.trips) : BitVec 32 :=
  let c0_i32_58 : BitVec 32 := 0#32
  let c1_i32 : BitVec 32 := 1#32
  let arg10 : BitVec 32 := Scf.iv c0_i32_58 c1_i32 k0_t1
  let c64_i32 : BitVec 32 := 64#32
  let v215 : BitVec 32 := Scalar.muli arg10 c64_i32
  let c0_i32_66 : BitVec 32 := 0#32
  let v216 : BitVec 32 := Scalar.addi v215 c0_i32_66
  v216
def k0_off3 (k0_t1 : Fin k0_t1_loop.trips) (c0_i32_66 : BitVec 32) : Fin 2 → Nat :=
  let c0_i32_58 : BitVec 32 := 0#32
  let c1_i32 : BitVec 32 := 1#32
  let arg10 : BitVec 32 := Scf.iv c0_i32_58 c1_i32 k0_t1
  let c64_i32 : BitVec 32 := 64#32
  let v215 : BitVec 32 := Scalar.muli arg10 c64_i32
  let v216 : BitVec 32 := Scalar.addi v215 c0_i32_66
  let v217 : BitVec 32 := v216
  let v218 : Index := Scalar.indexCast v217
  let c0_67 : Index := 0#32
  ![v218.toNat, 0]
def k0_off4 (k0_t1 : Fin k0_t1_loop.trips) (c0_i32_76 : BitVec 32) (c0_i32_77 : BitVec 32) (c0_i32_78 : BitVec 32) : Fin 2 → Nat :=
  let c0_i32_58 : BitVec 32 := 0#32
  let c1_i32 : BitVec 32 := 1#32
  let arg10 : BitVec 32 := Scf.iv c0_i32_58 c1_i32 k0_t1
  let c16_i32_75 : BitVec 32 := 16#32
  let v254 : BitVec 32 := Scalar.muli arg10 c16_i32_75
  let v255 : BitVec 32 := Scalar.addi v254 c0_i32_76
  let v256 : BitVec 32 := Scalar.addi v255 c0_i32_77
  let v257 : BitVec 32 := Scalar.addi v256 c0_i32_78
  let v258 : Index := Scalar.indexCast v257
  let c0_79 : Index := 0#32
  ![v258.toNat, 0]
def k0_mult3 (k0_t1 : Fin k0_t1_loop.trips) : BitVec 32 :=
  let c0_i32_58 : BitVec 32 := 0#32
  let c1_i32 : BitVec 32 := 1#32
  let arg10 : BitVec 32 := Scf.iv c0_i32_58 c1_i32 k0_t1
  let c128_i32_113 : BitVec 32 := 128#32
  let v340 : BitVec 32 := Scalar.muli arg10 c128_i32_113
  let c64_i32_114 : BitVec 32 := 64#32
  let v341 : BitVec 32 := Scalar.addi v340 c64_i32_114
  v341
def k0_mult4 (k0_t1 : Fin k0_t1_loop.trips) : BitVec 32 :=
  let c0_i32_58 : BitVec 32 := 0#32
  let c1_i32 : BitVec 32 := 1#32
  let arg10 : BitVec 32 := Scf.iv c0_i32_58 c1_i32 k0_t1
  let c64_i32_118 : BitVec 32 := 64#32
  let v352 : BitVec 32 := Scalar.muli arg10 c64_i32_118
  let c32_i32_119 : BitVec 32 := 32#32
  let v353 : BitVec 32 := Scalar.addi v352 c32_i32_119
  v353
def k0_mult5 (i : grid0.Coords) (k0_t1 : Fin k0_t1_loop.trips) : BitVec 32 :=
  let arg1 : BitVec 32 := BitVec.ofNat 32 (i 1).val
  let c4096_i32 : BitVec 32 := 4096#32
  let v478 : BitVec 32 := Scalar.muli arg1 c4096_i32
  let c0_i32_58 : BitVec 32 := 0#32
  let c1_i32 : BitVec 32 := 1#32
  let arg10 : BitVec 32 := Scf.iv c0_i32_58 c1_i32 k0_t1
  let c256_i32 : BitVec 32 := 256#32
  let v479 : BitVec 32 := Scalar.muli arg10 c256_i32
  let v480 : BitVec 32 := Scalar.addi v478 v479
  v480
def k0_off5 (i : grid0.Coords) (k0_t1 : Fin k0_t1_loop.trips) : Fin 2 → Nat :=
  let c0_172 : Index := 0#32
  let arg1 : BitVec 32 := BitVec.ofNat 32 (i 1).val
  let c4096_i32 : BitVec 32 := 4096#32
  let v478 : BitVec 32 := Scalar.muli arg1 c4096_i32
  let c0_i32_58 : BitVec 32 := 0#32
  let c1_i32 : BitVec 32 := 1#32
  let arg10 : BitVec 32 := Scf.iv c0_i32_58 c1_i32 k0_t1
  let c256_i32 : BitVec 32 := 256#32
  let v479 : BitVec 32 := Scalar.muli arg10 c256_i32
  let v480 : BitVec 32 := Scalar.addi v478 v479
  let v481 : BitVec 32 := v480
  let v482 : Index := Scalar.indexCast v481
  ![0, v482.toNat]
def k0_cond2 (i : grid0.Coords) : BitVec 1 :=
  let arg1 : BitVec 32 := BitVec.ofNat 32 (i 1).val
  let c3_i32 : BitVec 32 := 3#32
  let v200 : BitVec 1 := Scalar.cmpi .eq arg1 c3_i32
  let v201 : BitVec 32 := Scalar.extui v200
  let c0_i32_62 : BitVec 32 := 0#32
  let v202 : BitVec 1 := Scalar.cmpi .ne v201 c0_i32_62
  v202

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S48x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S48x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
abbrev S48x1x16384 : Shape := ⟨3, ![48, 1, 16384]⟩
abbrev S8192x64x2x64 : Shape := ⟨4, ![8192, 64, 2, 64]⟩
abbrev S8192x64x2x32 : Shape := ⟨4, ![8192, 64, 2, 32]⟩
abbrev S8192x64x16 : Shape := ⟨3, ![8192, 64, 16]⟩
abbrev S8192x64 : Shape := ⟨2, ![8192, 64]⟩
abbrev S48x16384 : Shape := ⟨2, ![48, 16384]⟩
abbrev S64x2x64x8192 : Shape := ⟨4, ![64, 2, 64, 8192]⟩
abbrev S8192x8192 : Shape := ⟨2, ![8192, 8192]⟩
abbrev S64x2x32x8192 : Shape := ⟨4, ![64, 2, 32, 8192]⟩
abbrev S4096x8192 : Shape := ⟨2, ![4096, 8192]⟩
abbrev S64x16x8192 : Shape := ⟨3, ![64, 16, 8192]⟩
abbrev S64x8192 : Shape := ⟨2, ![64, 8192]⟩
abbrev S48x8192 : Shape := ⟨2, ![48, 8192]⟩
abbrev S2048x512 : Shape := ⟨2, ![2048, 512]⟩
abbrev S1024x512 : Shape := ⟨2, ![1024, 512]⟩
abbrev S16x16x512 : Shape := ⟨3, ![16, 16, 512]⟩
abbrev S16x512 : Shape := ⟨2, ![16, 512]⟩
abbrev S48x512 : Shape := ⟨2, ![48, 512]⟩
abbrev S256x512 : Shape := ⟨2, ![256, 512]⟩
abbrev S256x2x512 : Shape := ⟨3, ![256, 2, 512]⟩
abbrev S256x1x512 : Shape := ⟨3, ![256, 1, 512]⟩
abbrev S1x16x512 : Shape := ⟨3, ![1, 16, 512]⟩
abbrev S1x512 : Shape := ⟨2, ![1, 512]⟩
abbrev S16x2x512 : Shape := ⟨3, ![16, 2, 512]⟩
abbrev S16x1x512 : Shape := ⟨3, ![16, 1, 512]⟩
abbrev S32x512 : Shape := ⟨2, ![32, 512]⟩
abbrev S8x512 : Shape := ⟨2, ![8, 512]⟩
abbrev S1x2x512 : Shape := ⟨3, ![1, 2, 512]⟩
abbrev S1x1x512 : Shape := ⟨3, ![1, 1, 512]⟩
abbrev S48x256 : Shape := ⟨2, ![48, 256]⟩

abbrev nBuf : Space → Nat
  | .hbm => 13
  | .vmem => 13
  | .smem => 0
  | _ => 0

abbrev bufTy : (tb : Table) → Fin (tcTables nBuf tb) → BufTy
  | .hbm, ⟨0, _⟩ => ⟨S48x1x16384, .bf16⟩
  | .hbm, ⟨1, _⟩ => ⟨S8192x64x2x64, .i8⟩
  | .hbm, ⟨2, _⟩ => ⟨S8192x64x2x32, .i8⟩
  | .hbm, ⟨3, _⟩ => ⟨S8192x64x16, .i8⟩
  | .hbm, ⟨4, _⟩ => ⟨S8192x64, .i16⟩
  | .hbm, ⟨5, _⟩ => ⟨S48x16384, .bf16⟩
  | .hbm, ⟨6, _⟩ => ⟨S64x2x64x8192, .i8⟩
  | .hbm, ⟨7, _⟩ => ⟨S8192x8192, .i8⟩
  | .hbm, ⟨8, _⟩ => ⟨S64x2x32x8192, .i8⟩
  | .hbm, ⟨9, _⟩ => ⟨S4096x8192, .i8⟩
  | .hbm, ⟨10, _⟩ => ⟨S64x16x8192, .i8⟩
  | .hbm, ⟨11, _⟩ => ⟨S64x8192, .i16⟩
  | .hbm, ⟨12, _⟩ => ⟨S48x8192, .bf16⟩
  | .local _ .vmem, ⟨0, _⟩ => ⟨S48x16384, .bf16⟩
  | .local _ .vmem, ⟨1, _⟩ => ⟨S2048x512, .i8⟩
  | .local _ .vmem, ⟨2, _⟩ => ⟨S2048x512, .i8⟩
  | .local _ .vmem, ⟨3, _⟩ => ⟨S1024x512, .i8⟩
  | .local _ .vmem, ⟨4, _⟩ => ⟨S1024x512, .i8⟩
  | .local _ .vmem, ⟨5, _⟩ => ⟨S16x16x512, .i8⟩
  | .local _ .vmem, ⟨6, _⟩ => ⟨S16x16x512, .i8⟩
  | .local _ .vmem, ⟨7, _⟩ => ⟨S16x512, .i16⟩
  | .local _ .vmem, ⟨8, _⟩ => ⟨S16x512, .i16⟩
  | .local _ .vmem, ⟨9, _⟩ => ⟨S48x512, .bf16⟩
  | .local _ .vmem, ⟨10, _⟩ => ⟨S48x512, .bf16⟩
  | .local _ .vmem, ⟨11, _⟩ => ⟨S48x512, .f32⟩
  | .local _ .vmem, ⟨12, _⟩ => ⟨S256x2x512, .bf16⟩
  | _, _ => ⟨S48x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_58 : BitVec 32 := 0#32
  let c16_i32 : BitVec 32 := 16#32
  let v195 : BitVec 32 := Scalar.addi c0_i32_58 c16_i32
  let c1_i32 : BitVec 32 := 1#32
  ⟨c0_i32_58, v195, c1_i32⟩
def k0_mult1 (k0_t1 : Fin k0_t1_loop.trips) : BitVec 32 :=
  let c0_i32_58 : BitVec 32 := 0#32
  let c1_i32 : BitVec 32 := 1#32
  let arg10 : BitVec 32 := Scf.iv c0_i32_58 c1_i32 k0_t1
  let c128_i32 : BitVec 32 := 128#32
  let v203 : BitVec 32 := Scalar.muli arg10 c128_i32
  let c0_i32_63 : BitVec 32 := 0#32
  let v204 : BitVec 32 := Scalar.addi v203 c0_i32_63
  v204
def k0_off1 (k0_t1 : Fin k0_t1_loop.trips) (c0_i32_63 : BitVec 32) : Fin 2 → Nat :=
  let c0_i32_58 : BitVec 32 := 0#32
  let c1_i32 : BitVec 32 := 1#32
  let arg10 : BitVec 32 := Scf.iv c0_i32_58 c1_i32 k0_t1
  let c128_i32 : BitVec 32 := 128#32
  let v203 : BitVec 32 := Scalar.muli arg10 c128_i32
  let v204 : BitVec 32 := Scalar.addi v203 c0_i32_63
  let v205 : BitVec 32 := v204
  let v206 : Index := Scalar.indexCast v205
  let c0_64 : Index := 0#32
  ![v206.toNat, 0]
def k0_off2 (k0_t1 : Fin k0_t1_loop.trips) (c0_i32_63 : BitVec 32) : Fin 2 → Nat :=
  let c0_i32_58 : BitVec 32 := 0#32
  let c1_i32 : BitVec 32 := 1#32
  let arg10 : BitVec 32 := Scf.iv c0_i32_58 c1_i32 k0_t1
  let c128_i32 : BitVec 32 := 128#32
  let v203 : BitVec 32 := Scalar.muli arg10 c128_i32
  let v204 : BitVec 32 := Scalar.addi v203 c0_i32_63
  let v205 : BitVec 32 := v204
  let c32_i32 : BitVec 32 := 32#32
  let v210 : BitVec 32 := Scalar.addi v205 c32_i32
  let v211 : Index := Scalar.indexCast v210
  let c0_65 : Index := 0#32
  ![v211.toNat, 0]
def k0_mult2 (k0_t1 : Fin k0_t1_loop.trips) : BitVec 32 :=
  let c0_i32_58 : BitVec 32 := 0#32
  let c1_i32 : BitVec 32 := 1#32
  let arg10 : BitVec 32 := Scf.iv c0_i32_58 c1_i32 k0_t1
  let c64_i32 : BitVec 32 := 64#32
  let v215 : BitVec 32 := Scalar.muli arg10 c64_i32
  let c0_i32_66 : BitVec 32 := 0#32
  let v216 : BitVec 32 := Scalar.addi v215 c0_i32_66
  v216
def k0_off3 (k0_t1 : Fin k0_t1_loop.trips) (c0_i32_66 : BitVec 32) : Fin 2 → Nat :=
  let c0_i32_58 : BitVec 32 := 0#32
  let c1_i32 : BitVec 32 := 1#32
  let arg10 : BitVec 32 := Scf.iv c0_i32_58 c1_i32 k0_t1
  let c64_i32 : BitVec 32 := 64#32
  let v215 : BitVec 32 := Scalar.muli arg10 c64_i32
  let v216 : BitVec 32 := Scalar.addi v215 c0_i32_66
  let v217 : BitVec 32 := v216
  let v218 : Index := Scalar.indexCast v217
  let c0_67 : Index := 0#32
  ![v218.toNat, 0]
def k0_off4 (k0_t1 : Fin k0_t1_loop.trips) (c0_i32_76 : BitVec 32) (c0_i32_77 : BitVec 32) (c0_i32_78 : BitVec 32) : Fin 3 → Nat :=
  let c0_i32_58 : BitVec 32 := 0#32
  let c1_i32 : BitVec 32 := 1#32
  let arg10 : BitVec 32 := Scf.iv c0_i32_58 c1_i32 k0_t1
  let c16_i32_75 : BitVec 32 := 16#32
  let v254 : BitVec 32 := Scalar.muli arg10 c16_i32_75
  let v255 : BitVec 32 := Scalar.addi v254 c0_i32_76
  let v256 : BitVec 32 := Scalar.addi v255 c0_i32_77
  let v257 : BitVec 32 := Scalar.addi v256 c0_i32_78
  let v258 : Index := Scalar.indexCast v257
  let c0_79 : Index := 0#32
  ![v258.toNat, 0, 0]
def k0_mult3 (k0_t1 : Fin k0_t1_loop.trips) : BitVec 32 :=
  let c0_i32_58 : BitVec 32 := 0#32
  let c1_i32 : BitVec 32 := 1#32
  let arg10 : BitVec 32 := Scf.iv c0_i32_58 c1_i32 k0_t1
  let c128_i32_113 : BitVec 32 := 128#32
  let v340 : BitVec 32 := Scalar.muli arg10 c128_i32_113
  let c64_i32_114 : BitVec 32 := 64#32
  let v341 : BitVec 32 := Scalar.addi v340 c64_i32_114
  v341
def k0_mult4 (k0_t1 : Fin k0_t1_loop.trips) : BitVec 32 :=
  let c0_i32_58 : BitVec 32 := 0#32
  let c1_i32 : BitVec 32 := 1#32
  let arg10 : BitVec 32 := Scf.iv c0_i32_58 c1_i32 k0_t1
  let c64_i32_118 : BitVec 32 := 64#32
  let v352 : BitVec 32 := Scalar.muli arg10 c64_i32_118
  let c32_i32_119 : BitVec 32 := 32#32
  let v353 : BitVec 32 := Scalar.addi v352 c32_i32_119
  v353
def k0_mult5 (i : grid0.Coords) (k0_t1 : Fin k0_t1_loop.trips) : BitVec 32 :=
  let arg1 : BitVec 32 := BitVec.ofNat 32 (i 1).val
  let c4096_i32 : BitVec 32 := 4096#32
  let v478 : BitVec 32 := Scalar.muli arg1 c4096_i32
  let c0_i32_58 : BitVec 32 := 0#32
  let c1_i32 : BitVec 32 := 1#32
  let arg10 : BitVec 32 := Scf.iv c0_i32_58 c1_i32 k0_t1
  let c256_i32 : BitVec 32 := 256#32
  let v479 : BitVec 32 := Scalar.muli arg10 c256_i32
  let v480 : BitVec 32 := Scalar.addi v478 v479
  v480
def k0_off5 (i : grid0.Coords) (k0_t1 : Fin k0_t1_loop.trips) : Fin 2 → Nat :=
  let c0_172 : Index := 0#32
  let arg1 : BitVec 32 := BitVec.ofNat 32 (i 1).val
  let c4096_i32 : BitVec 32 := 4096#32
  let v478 : BitVec 32 := Scalar.muli arg1 c4096_i32
  let c0_i32_58 : BitVec 32 := 0#32
  let c1_i32 : BitVec 32 := 1#32
  let arg10 : BitVec 32 := Scf.iv c0_i32_58 c1_i32 k0_t1
  let c256_i32 : BitVec 32 := 256#32
  let v479 : BitVec 32 := Scalar.muli arg10 c256_i32
  let v480 : BitVec 32 := Scalar.addi v478 v479
  let v481 : BitVec 32 := v480
  let v482 : Index := Scalar.indexCast v481
  ![0, v482.toNat]
def k0_cond2 (i : grid0.Coords) : BitVec 1 :=
  let arg1 : BitVec 32 := BitVec.ofNat 32 (i 1).val
  let c3_i32 : BitVec 32 := 3#32
  let v200 : BitVec 1 := Scalar.cmpi .eq arg1 c3_i32
  let v201 : BitVec 32 := Scalar.extui v200
  let c0_i32_62 : BitVec 32 := 0#32
  let v202 : BitVec 1 := Scalar.cmpi .ne v201 c0_i32_62
  v202

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S48x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S48x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S48x1x16384 : Shape := ⟨3, ![48, 1, 16384]⟩
abbrev S8192x64x2x64 : Shape := ⟨4, ![8192, 64, 2, 64]⟩
abbrev S8192x64x2x32 : Shape := ⟨4, ![8192, 64, 2, 32]⟩
abbrev S8192x64x16 : Shape := ⟨3, ![8192, 64, 16]⟩
abbrev S8192x64 : Shape := ⟨2, ![8192, 64]⟩
abbrev S48x8192 : Shape := ⟨2, ![48, 8192]⟩
abbrev S8192x64x1 : Shape := ⟨3, ![8192, 64, 1]⟩
abbrev S8192x64x2x8 : Shape := ⟨4, ![8192, 64, 2, 8]⟩
abbrev S8192x64x2x128 : Shape := ⟨4, ![8192, 64, 2, 128]⟩
abbrev S8192x64x2x8x16 : Shape := ⟨5, ![8192, 64, 2, 8, 16]⟩
abbrev S8192x64x2x8x1 : Shape := ⟨5, ![8192, 64, 2, 8, 1]⟩
abbrev S48x64x2x128 : Shape := ⟨4, ![48, 64, 2, 128]⟩

abbrev nBuf : Space → Nat
  | .hbm => 6
  | .vmem => 6
  | .smem => 0
  | _ => 0

abbrev bufTy : (tb : Table) → Fin (tcTables nBuf tb) → BufTy
  | .hbm, ⟨0, _⟩ => ⟨S48x1x16384, .bf16⟩
  | .hbm, ⟨1, _⟩ => ⟨S8192x64x2x64, .i8⟩
  | .hbm, ⟨2, _⟩ => ⟨S8192x64x2x32, .i8⟩
  | .hbm, ⟨3, _⟩ => ⟨S8192x64x16, .i8⟩
  | .hbm, ⟨4, _⟩ => ⟨S8192x64, .i16⟩
  | .hbm, ⟨5, _⟩ => ⟨S48x8192, .bf16⟩
  | .local _ .vmem, ⟨0, _⟩ => ⟨S48x1x16384, .bf16⟩
  | .local _ .vmem, ⟨1, _⟩ => ⟨S8192x64x2x64, .i8⟩
  | .local _ .vmem, ⟨2, _⟩ => ⟨S8192x64x2x32, .i8⟩
  | .local _ .vmem, ⟨3, _⟩ => ⟨S8192x64x16, .i8⟩
  | .local _ .vmem, ⟨4, _⟩ => ⟨S8192x64, .i16⟩
  | .local _ .vmem, ⟨5, _⟩ => ⟨S48x8192, .bf16⟩
  | _, _ => ⟨S48x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S48x1x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x64x2x64 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x64x2x32 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x64x16 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x64 .i16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Trip.lean ====
module

public import proofs.«01_k».proof.Proof.Gen.KernelIdeal.Value

/-! What one trip of the kernel's loop adds to the accumulator, in plain words: a 48 x 256 slice of the
    activations times 256 dequantized rows, which are sixteen pieces of sixteen rows each. -/

@[expose] public section

noncomputable section

namespace Cert.KernelIdeal.Hand

open Idealize.ShloMosaic Idealize.ShloMosaic.TcCoe Idealize.SL.Sem Cert.KernelIdeal Cert.KernelIdeal.Gen
open Idealize.ShloMosaic.Tactic

variable {F : FTy → Type} [FloatOps F]

/-- Thirty-two rows of bytes read as eight rows of words. -/
def words (A : Vec F S32x512 .i8) : IVec S8x512 32 :=
  bitcast S8x512 32 (shapeCast S32x512 A shapeCasts_S32x512_S32x512) bitcasts_S32x512_w8_S8x512_w32

/-- The words of high bits, with the top bit of every two-bit field flipped. -/
def flipped (Q : Vec F S32x512 .i8) : IVec S8x512 32 := xori (words Q) (broadcast S8x512 2863311530#32)

/-- The high bits of fields 0 and 2, and of fields 1 and 3. -/
def spread (Q : Vec F S32x512 .i8) : Fin 2 → IVec S8x512 32
  | 0 => shli (andi (flipped Q) (broadcast S8x512 858993459#32)) (broadcast S8x512 2#32)
  | 1 => andi (flipped Q) (broadcast S8x512 3435973836#32)

/-- The bits that move between the low word and the spread high bits. -/
def crossed (L Q : Vec F S32x512 .i8) (p : Fin 2) : IVec S8x512 32 :=
  andi (xori (shrui (words L) (broadcast S8x512 2#32)) (spread Q p)) (broadcast S8x512 1010580540#32)

/-- The words of the four fields: each byte is four times a code less 32. -/
def fieldWords (A B Q : Vec F S32x512 .i8) : Fin 4 → IVec S8x512 32
  | 0 => shli (xori (words A) (shli (crossed A Q 0) (broadcast S8x512 2#32))) (broadcast S8x512 2#32)
  | 1 => shli (xori (words B) (shli (crossed B Q 1) (broadcast S8x512 2#32))) (broadcast S8x512 2#32)
  | 2 => xori (spread Q 0) (crossed A Q 0)
  | 3 => xori (spread Q 1) (crossed B Q 1)

/-- A field's codes as numbers. -/
def fieldCodes (A B Q : Vec F S32x512 .i8) (f : Fin 4) : FVec F S32x512 .bf16 :=
  sitofp .bf16 (bitcast S32x512 8 (fieldWords A B Q f) bitcasts_S8x512_w32_S32x512_w8)

/-- One half of a row of scale pairs. -/
def scaleHalf (p : Fin 2) (e : Vec F S1x2x512 .bf16) : FVec F S1x512 .bf16 :=
  shapeCast S1x512 (rowsOfParity p S1x1x512 e bitcasts_S1x2x512_w16_S1x1x512_w32) shapeCasts_S1x1x512_S1x512

/-- That half eight times over. -/
def scaleEight (p : Fin 2) (e : Vec F S1x2x512 .bf16) : FVec F S8x512 .bf16 :=
  concatenate S8x512 0 (List.ofFn fun _ : Fin 8 => ⟨S1x512, scaleHalf p e⟩)
    concatenates_S1x512_S1x512_S1x512_S1x512_S1x512_S1x512_S1x512_S1x512_S8x512_d0

/-- Sixteen rows of scales. -/
def scaleRows (e : Vec F S1x2x512 .bf16) : FVec F S16x512 .bf16 :=
  interleaveRows S16x512 (scaleEight 0 e) (scaleEight 1 e) bitcasts_S16x512_w16_S8x512_w32

/-- The sixteen rows of group `g` are among the field's thirty-two. -/
theorem slices_group (g : Fin 2) : S32x512.Slices ![16 * g.val, 0] S16x512 := by
  revert g; decide

/-- Sixteen dequantized rows: group `g` of field `f`. -/
def piece (A B Q : Vec F S32x512 .i8) (e : Vec F S1x2x512 .bf16) (f : Fin 4) (g : Fin 2) : FVec F S16x512 .bf16 :=
  mulf (extractStridedSlice S16x512 ![16 * g.val, 0] (fieldCodes A B Q f) (slices_group g)) (scaleRows e)

/-- Where piece `n` of a trip comes from: its half, field and group. -/
abbrev halfOf (n : Fin 16) : Fin 2 := ⟨n.val / 8, by omega⟩
abbrev fieldOf (n : Fin 16) : Fin 4 := ⟨n.val / 2 % 4, by omega⟩
abbrev groupOf (n : Fin 16) : Fin 2 := ⟨n.val % 2, by omega⟩

/-- The 256 dequantized rows of a trip. -/
def rows (A B Q : Fin 2 → Vec F S32x512 .i8) (e : Fin 2 → Fin 4 → Fin 2 → Vec F S1x2x512 .bf16) :
    FVec F S256x512 .bf16 :=
  concatenate S256x512 0 (List.ofFn fun n : Fin 16 => ⟨S16x512,
      piece (A (halfOf n)) (B (halfOf n)) (Q (halfOf n)) (e (halfOf n) (fieldOf n) (groupOf n)) (fieldOf n) (groupOf n)⟩)
    concatenates_S16x512_S16x512_S16x512_S16x512_S16x512_S16x512_S16x512_S16x512_S16x512_S16x512_S16x512_S16x512_S16x512_S16x512_S16x512_S16x512_S256x512_d0

/-- A trip adds the activations' slice times the trip's rows to the accumulator. -/
theorem trip_eq (𝒱 : Variants) (c : Dev nD) (bd : Option 𝒱.V) (i : grid0.Coords) (arg2 : Memref sig .tc .vmem S48x16384 .bf16) (harg2 : arg2.IsWhole) (arg3 : Memref sig .tc .vmem S2048x512 .i8) (harg3 : arg3.IsWhole) (arg4 : Memref sig .tc .vmem S1024x512 .i8) (harg4 : arg4.IsWhole) (arg5 : Memref sig .tc .vmem S16x16x512 .i8) (harg5 : arg5.IsWhole) (arg6 : Memref sig .tc .vmem S16x512 .i16) (harg6 : arg6.IsWhole) (arg7 : Memref sig .tc .vmem S48x512 .bf16) (harg7 : arg7.IsWhole) (arg8 : Memref sig .tc .vmem S48x512 .f32) (harg8 : arg8.IsWhole) (arg9 : Memref sig .tc .vmem S256x2x512 .bf16) (harg9 : arg9.IsWhole) (arg1 : BitVec 32) (v33 : FVec F S16x512 .f32) (X_arg2 : BufTy.Contents (Elt F) arg2.view.ty) (X_arg3 : BufTy.Contents (Elt F) arg3.view.ty) (X_arg4 : BufTy.Contents (Elt F) arg4.view.ty) (X_arg9 : BufTy.Contents (Elt F) arg9.view.ty) (k : Fin k0_t1_loop.trips) (acc : Vec F S48x512 .f32) :
   tripR_k0_t1 (F := F) 𝒱 c bd i arg2 harg2 arg3 harg3 arg4 harg4 arg5 harg5 arg6 harg6 arg7 harg7 arg8 harg8 arg9 harg9 arg1 v33 X_arg2 X_arg3 X_arg4 X_arg9 k acc =
    k0_pay78 acc
      (rows
        (fun h => View.readAt (Elt F) arg3.view (Rect.unit (s := S2048x512) (k0_off1 k (BitVec.ofNat 32 (64 * h.val))) S32x512.size (k0_off1_inb k h)).toLoadRect X_arg3)
        (fun h => View.readAt (Elt F) arg3.view (Rect.unit (s := S2048x512) (k0_off2 k (BitVec.ofNat 32 (64 * h.val))) S32x512.size (k0_off2_inb k h)).toLoadRect X_arg3)
        (fun h => View.readAt (Elt F) arg4.view (Rect.unit (s := S1024x512) (k0_off3 k (BitVec.ofNat 32 (32 * h.val))) S32x512.size (k0_off3_inb k h)).toLoadRect X_arg4)
        (fun h f g => View.readAt (Elt F) arg9.view (Rect.unit (s := S256x2x512) (k0_off4 k (BitVec.ofNat 32 (8 * h.val)) (BitVec.ofNat 32 (2 * f.val)) (BitVec.ofNat 32 g.val)) S1x2x512.size (k0_off4_inb k h f g)).toLoadRect X_arg9))
      (View.readAt (Elt F) arg2.view (Rect.unit (s := S48x16384) (k0_off5 i k) S48x256.size (k0_off5_inb i k)).toLoadRect X_arg2) := by
  unfold tripR_k0_t1 trip_k0_t1
  rfl

end Cert.KernelIdeal.Hand

end
-- ==== Proof.Byte.lean ====
module

public import Idealize.ShloMosaic.Lib.BitcastFour

/-! The bit tricks of the codes. A byte of low bits and a byte of high bits hold parts of six-bit codes; the kernel works on
    four bytes at once in a word, and each byte of its result is four times a code less 32. -/

@[expose] public section

namespace Cert.Codes

open Idealize.ShloMosaic

/-- Byte `k` of a word. -/
def byteOf (w : BitVec 32) (k : ℕ) : BitVec 8 := w.extractLsb' (8 * k) 8

/-- The four low bits of the code of field `f`, from the low byte of its pair of fields. -/
def nibble (f : Fin 4) (a b : BitVec 8) : BitVec 8 :=
  match f with
  | 0 => a &&& 15#8
  | 1 => b &&& 15#8
  | 2 => a >>> 4
  | 3 => b >>> 4

/-- The six-bit code of field `f`: its four low bits, and its two high bits out of the high byte. -/
def code (f : Fin 4) (a b q : BitVec 8) : BitVec 8 :=
  nibble f a b ||| (((q >>> (2 * f.val)) &&& 3#8) <<< 4)

/-- The kernel's word of high bits, flipped and spread for the fields of parity `p`. -/
def spreadW (q : BitVec 32) : Fin 2 → BitVec 32
  | 0 => ((q ^^^ 2863311530#32) &&& 858993459#32) <<< 2
  | 1 => (q ^^^ 2863311530#32) &&& 3435973836#32

/-- The kernel's exchanged bits. -/
def crossW (l q : BitVec 32) (p : Fin 2) : BitVec 32 := ((l >>> 2) ^^^ spreadW q p) &&& 1010580540#32

/-- The kernel's word of field `f`. -/
def fieldW (a b q : BitVec 32) : Fin 4 → BitVec 32
  | 0 => (a ^^^ (crossW a q 0 <<< 2)) <<< 2
  | 1 => (b ^^^ (crossW b q 1 <<< 2)) <<< 2
  | 2 => spreadW q 0 ^^^ crossW a q 0
  | 3 => spreadW q 1 ^^^ crossW b q 1

theorem xor_cancel : ∀ x y : Bool, (x ^^ (y ^^ x)) = y := by decide
theorem bne_cancel : ∀ x y : Bool, (x != (y != x)) = y := by decide

/-- Byte `k` of the kernel's word of field `f` is the code of the three bytes `k`, its top bit flipped, times four. -/
theorem byteOf_fieldW (f : Fin 4) (k : Fin 4) (a b q : BitVec 32) :
    byteOf (fieldW a b q f) k.val = (code f (byteOf a k) (byteOf b k) (byteOf q k) ^^^ 32#8) <<< 2 := by
  apply BitVec.eq_of_getLsbD_eq
  intro i hi
  fin_cases f <;> fin_cases k <;> interval_cases i <;>
    simp [byteOf, fieldW, spreadW, crossW, code, nibble, BitVec.getLsbD_extractLsb', BitVec.getLsbD_ofNat, Nat.testBit, xor_cancel, bne_cancel]

/-- A code is below 64. -/
theorem code_lt (f : Fin 4) (a b q : BitVec 8) : code f a b q &&& 192#8 = 0#8 := by
  apply BitVec.eq_of_getLsbD_eq
  intro i hi
  fin_cases f <;> interval_cases i <;>
    simp [code, nibble, BitVec.getLsbD_ofNat, Nat.testBit]

/-- A byte below 64, its top bit flipped, times four, is as a signed number four times the byte less 32. -/
theorem toInt_of_lt : ∀ c : BitVec 8, c &&& 192#8 = 0#8 → ((c ^^^ 32#8) <<< 2).toInt = 4 * ((c.toNat : ℤ) - 32) := by
  decide +kernel

/-- Byte `k` of the kernel's word of field `f`, as a signed number. -/
theorem toInt_fieldW (f : Fin 4) (k : Fin 4) (a b q : BitVec 32) :
    (byteOf (fieldW a b q f) k.val).toInt = 4 * (((code f (byteOf a k) (byteOf b k) (byteOf q k)).toNat : ℤ) - 32) := by
  rw [byteOf_fieldW]
  exact toInt_of_lt _ (code_lt _ _ _ _)

/-- What the reference computes of a low byte and a high byte for one of the four fields, over wide words. -/
def refCode (f : Fin 4) (a b q : BitVec 8) : BitVec 32 :=
  match f with
  | 0 => (a.setWidth 32 &&& 15#32) ||| ((q.setWidth 32 &&& 3#32) <<< 4)
  | 1 => (b.setWidth 32 &&& 15#32) ||| (((q.setWidth 32).sshiftRight 2 &&& 3#32) <<< 4)
  | 2 => (a.setWidth 32).sshiftRight 4 ||| (((q.setWidth 32).sshiftRight 4 &&& 3#32) <<< 4)
  | 3 => (b.setWidth 32).sshiftRight 4 ||| ((((q.setWidth 32).sshiftRight 2).sshiftRight 4 &&& 3#32) <<< 4)

theorem low_and : ∀ a : BitVec 8, a.setWidth 32 &&& 15#32 = (a &&& 15#8).setWidth 32 := by decide +kernel
theorem low_shr : ∀ a : BitVec 8, (a.setWidth 32).sshiftRight 4 = (a >>> 4).setWidth 32 := by decide +kernel
theorem high0 : ∀ q : BitVec 8, (q.setWidth 32 &&& 3#32) <<< 4 = (((q >>> 0) &&& 3#8) <<< 4).setWidth 32 := by decide +kernel
theorem high1 : ∀ q : BitVec 8, ((q.setWidth 32).sshiftRight 2 &&& 3#32) <<< 4 = (((q >>> 2) &&& 3#8) <<< 4).setWidth 32 := by
  decide +kernel
theorem high2 : ∀ q : BitVec 8, ((q.setWidth 32).sshiftRight 4 &&& 3#32) <<< 4 = (((q >>> 4) &&& 3#8) <<< 4).setWidth 32 := by
  decide +kernel
theorem high3 : ∀ q : BitVec 8, (((q.setWidth 32).sshiftRight 2).sshiftRight 4 &&& 3#32) <<< 4
    = (((q >>> 6) &&& 3#8) <<< 4).setWidth 32 := by decide +kernel

/-- The reference's wide code is the code. -/
theorem refCode_eq (f : Fin 4) (a b q : BitVec 8) : refCode f a b q = (code f a b q).setWidth 32 := by
  fin_cases f
  · exact (congrArg₂ _ (low_and a) (high0 q)).trans BitVec.setWidth_or.symm
  · exact (congrArg₂ _ (low_and b) (high1 q)).trans BitVec.setWidth_or.symm
  · exact (congrArg₂ _ (low_shr a) (high2 q)).trans BitVec.setWidth_or.symm
  · exact (congrArg₂ _ (low_shr b) (high3 q)).trans BitVec.setWidth_or.symm

theorem toInt_wide : ∀ c : BitVec 8, (c.setWidth 32).toInt = (c.toNat : ℤ) := by decide +kernel

/-- The reference's code as a number. -/
theorem toInt_refCode (f : Fin 4) (a b q : BitVec 8) : (refCode f a b q).toInt = ((code f a b q).toNat : ℤ) := by
  rw [refCode_eq, toInt_wide]

/-! ## Words and their bytes in a vector -/

open ValueIdx

/-- Bytes read as words, and byte `r % 4` of the word at row `r / 4` taken back, is the byte at row `r`. -/
theorem byteOf_bitcast {R r n : ℕ} (x : (⟨2, ![R, n]⟩ : Shape).Idx → BitVec 8)
    (h : (⟨2, ![R, n]⟩ : Shape).Bitcasts 8 ⟨2, ![r, n]⟩ 32) (a : Fin r) (l : Fin n) (k : Fin 4) (p : Fin R)
    (hp : p.val = 4 * a.val + k.val) :
    byteOf (bitcast ⟨2, ![r, n]⟩ 32 x h (ix2 a l)) k.val = x (ix2 p l) := by
  apply BitVec.eq_of_getLsbD_eq
  intro i hi
  have hk := k.isLt
  rw [byteOf, BitVec.getLsbD_extractLsb', bitcast_8_32_getLsbD_ix2 x h a l _ (by omega) p (by omega)]
  simp [hi, show (8 * k.val + i) % 8 = i by omega]

/-- Words read as bytes: the byte at row `p` is byte `p % 4` of the word at row `p / 4`. -/
theorem bitcast_word {R r n : ℕ} (x : (⟨2, ![r, n]⟩ : Shape).Idx → BitVec 32)
    (h : (⟨2, ![r, n]⟩ : Shape).Bitcasts 32 ⟨2, ![R, n]⟩ 8) (a : Fin r) (l : Fin n) (k : Fin 4) (p : Fin R)
    (hp : p.val = 4 * a.val + k.val) :
    bitcast ⟨2, ![R, n]⟩ 8 x h (ix2 p l) = byteOf (x (ix2 a l)) k.val := by
  apply BitVec.eq_of_getLsbD_eq
  intro i hi
  have hk := k.isLt
  have hrow : Shape.row (s := ⟨2, ![R, n]⟩) (ix2 p l) = p.val := rfl
  have e : (Shape.row (s := ⟨2, ![R, n]⟩) (ix2 p l) * 8 + i) / 32 = a.val := by omega
  have em : (Shape.row (s := ⟨2, ![R, n]⟩) (ix2 p l) * 8 + i) % 32 = 8 * k.val + i := by omega
  rw [bitcast_getLsbD x h _ i hi (by decide), byteOf, BitVec.getLsbD_extractLsb', em]
  simp only [hi, decide_true, Bool.true_and]
  congr 2
  funext c
  match c with
  | ⟨0, _⟩ => exact Fin.ext ((h.srcIdx_row _ _ _ ⟨0, Nat.zero_lt_two⟩ rfl).trans e)
  | ⟨1, _⟩ => exact Fin.ext (h.srcIdx_other _ _ _ ⟨1, Nat.one_lt_two⟩ (by show ¬ 1 + 2 = 2; omega))

end Cert.Codes
-- ==== Proof.Rows.lean ====
module

public import proofs.«01_k».proof.Proof.Trip
public import proofs.«01_k».proof.Proof.Byte
public import Idealize.ShloMosaic.Lib.MatmulPlain

/-! One trip read at an index: the dequantized rows are codes times scales, and the trip adds 256 products. -/

@[expose] public section

noncomputable section

namespace Cert.KernelIdeal.Hand

open Idealize.ShloMosaic Idealize.ShloMosaic.ValueIdx Cert.KernelIdeal Cert.KernelIdeal.Gen Cert.Codes

/-- Half `p` of a row of scale pairs, at a lane. -/
theorem scaleHalf_apply (p : Fin 2) (e : Vec Ideal S1x2x512 .bf16) (z : Fin 1) (l : Fin 512) :
    scaleHalf (F := Ideal) p e (ix2 z l) = e (ix3 0 p l) := by
  unfold scaleHalf
  refine (shapeCast_dropUnit_apply (n := 2) ![1, 512] _ _ (ix2 z l)).trans ?_
  unfold rowsOfParity
  congr 1
  funext a
  match a with
  | ⟨0, _⟩ => rfl
  | ⟨1, _⟩ => exact Fin.ext (by show 2 * z.val + p.val = p.val; omega)
  | ⟨2, _⟩ => rfl

/-- It eight times over. -/
theorem scaleEight_apply (p : Fin 2) (e : Vec Ideal S1x2x512 .bf16) (z : Fin 8) (l : Fin 512) :
    scaleEight (F := Ideal) p e (ix2 z l) = e (ix3 0 p l) := by
  unfold scaleEight
  refine (concatenate_ofFn_apply (t := S8x512) (s₁ := S1x512) 0 (fun _ => scaleHalf (F := Ideal) p e) _ rfl 1 rfl (ix2 z l) z (Nat.div_one _) (ix2 0 l) (Nat.mod_one _).symm (by
    intro b hb
    match b with
    | ⟨0, _⟩ => exact absurd rfl hb
    | ⟨1, _⟩ => rfl)).trans ?_
  exact scaleHalf_apply p e 0 l

/-- Sixteen rows of scales: row `u` is the half of `u`'s parity. -/
theorem scaleRows_apply (e : Vec Ideal S1x2x512 .bf16) (u : Fin 16) (l : Fin 512) :
    scaleRows (F := Ideal) e (ix2 u l) = e (ix3 0 ⟨u.val % 2, by omega⟩ l) := by
  unfold scaleRows
  unfold interleaveRows
  have hr : S16x512.row (ix2 u l) = u.val := rfl
  dsimp only
  rw [hr]
  by_cases h : u.val % 2 = 0
  · rw [if_pos h]
    refine (congrArg (scaleEight (F := Ideal) 0 e) (a₂ := ix2 ⟨u.val / 2, by omega⟩ l) (by funext b; match b with | ⟨0, _⟩ => rfl | ⟨1, _⟩ => rfl)).trans ?_
    refine (scaleEight_apply 0 e ⟨u.val / 2, by omega⟩ l).trans ?_
    exact congrArg (fun q => e (ix3 0 q l)) (Fin.ext h.symm)
  · rw [if_neg h]
    refine (congrArg (scaleEight (F := Ideal) 1 e) (a₂ := ix2 ⟨u.val / 2, by omega⟩ l) (by funext b; match b with | ⟨0, _⟩ => rfl | ⟨1, _⟩ => rfl)).trans ?_
    refine (scaleEight_apply 1 e ⟨u.val / 2, by omega⟩ l).trans ?_
    exact congrArg (fun q => e (ix3 0 q l)) (Fin.ext (show 1 = u.val % 2 by omega))

/-- The words of a field at an index. -/
theorem fieldWords_apply (A B Q : Vec Ideal S32x512 .i8) (f : Fin 4) (a : Fin 8) (l : Fin 512) :
    fieldWords (F := Ideal) A B Q f (ix2 a l)
      = fieldW (words (F := Ideal) A (ix2 a l)) (words (F := Ideal) B (ix2 a l)) (words (F := Ideal) Q (ix2 a l)) f := by
  fin_cases f <;> rfl

/-- Byte `k` of the words is the byte of the rows. -/
theorem words_byte (A : Vec Ideal S32x512 .i8) (a : Fin 8) (l : Fin 512) (k : Fin 4) (p : Fin 32) (hp : p.val = 4 * a.val + k.val) :
    byteOf (words (F := Ideal) A (ix2 a l)) k.val = A (ix2 p l) := by
  unfold words
  rw [shapeCast_self]
  exact byteOf_bitcast A _ a l k p hp

/-- A field's codes as numbers: four times the code less 32. -/
theorem fieldCodes_apply (A B Q : Vec Ideal S32x512 .i8) (f : Fin 4) (p : Fin 32) (l : Fin 512) :
    fieldCodes (F := Ideal) A B Q f (ix2 p l)
      = (((4 * (((code f (A (ix2 p l)) (B (ix2 p l)) (Q (ix2 p l))).toNat : ℤ) - 32) : ℤ) : ℝ) : EReal) := by
  have hp : p.val = 4 * (⟨p.val / 4, by omega⟩ : Fin 8).val + (⟨p.val % 4, by omega⟩ : Fin 4).val := by
    show p.val = 4 * (p.val / 4) + p.val % 4
    omega
  have hw := bitcast_word (fieldWords (F := Ideal) A B Q f) bitcasts_S8x512_w32_S32x512_w8 ⟨p.val / 4, by omega⟩ l ⟨p.val % 4, by omega⟩ p hp
  show ((((bitcast S32x512 8 (fieldWords (F := Ideal) A B Q f) bitcasts_S8x512_w32_S32x512_w8 (ix2 p l)).toInt : ℤ) : ℝ) : EReal) = _
  rw [hw, fieldWords_apply, toInt_fieldW, words_byte A _ l _ p hp, words_byte B _ l _ p hp, words_byte Q _ l _ p hp]

/-- Row `r` of a trip: the code of its half, field and row among thirty-two, times the scale of its half, field and group. -/
theorem rows_apply (A B Q : Fin 2 → Vec Ideal S32x512 .i8) (e : Fin 2 → Fin 4 → Fin 2 → Vec Ideal S1x2x512 .bf16)
    (h : Fin 2) (f : Fin 4) (g : Fin 2) (u : Fin 16) (r : Fin 256) (hr : r.val = 128 * h.val + 32 * f.val + 16 * g.val + u.val) (l : Fin 512) :
    rows (F := Ideal) A B Q e (ix2 r l)
      = (((4 * (((code f (A h (ix2 ⟨16 * g.val + u.val, by omega⟩ l)) (B h (ix2 ⟨16 * g.val + u.val, by omega⟩ l))
          (Q h (ix2 ⟨16 * g.val + u.val, by omega⟩ l))).toNat : ℤ) - 32) : ℤ) : ℝ) : EReal)
        * e h f g (ix3 0 ⟨u.val % 2, by omega⟩ l) := by
  have hn : r.val / 16 < 16 := by omega
  unfold rows
  refine (concatenate_ofFn_apply (t := S256x512) (s₁ := S16x512) 0 (fun n : Fin 16 =>
      piece (F := Ideal) (A (halfOf n)) (B (halfOf n)) (Q (halfOf n)) (e (halfOf n) (fieldOf n) (groupOf n)) (fieldOf n) (groupOf n))
    _ rfl 16 rfl (ix2 r l) ⟨r.val / 16, hn⟩ rfl (ix2 u l) (by show u.val = r.val % 16; omega) (by
    intro b hb
    match b with
    | ⟨0, _⟩ => exact absurd rfl hb
    | ⟨1, _⟩ => rfl)).trans ?_
  have e1 : halfOf ⟨r.val / 16, hn⟩ = h := Fin.ext (by show r.val / 16 / 8 = h.val; omega)
  have e2 : fieldOf ⟨r.val / 16, hn⟩ = f := Fin.ext (by show r.val / 16 / 2 % 4 = f.val; omega)
  have e3 : groupOf ⟨r.val / 16, hn⟩ = g := Fin.ext (by show r.val / 16 % 2 = g.val; omega)
  rw [e1, e2, e3]
  show extractStridedSlice S16x512 ![16 * g.val, 0] (fieldCodes (F := Ideal) (A h) (B h) (Q h) f) (slices_group g) (ix2 u l)
    * scaleRows (F := Ideal) (e h f g) (ix2 u l) = _
  rw [scaleRows_apply]
  congr 1
  rw [← fieldCodes_apply]
  unfold extractStridedSlice
  congr 1
  funext b
  match b with
  | ⟨0, _⟩ => rfl
  | ⟨1, _⟩ => exact Fin.ext (Nat.zero_add _)

/-- A trip's sum at an index. -/
theorem pay78_apply (acc : Vec Ideal S48x512 .f32) (W : FVec Ideal S256x512 .bf16) (x : Vec Ideal S48x256 .bf16) (i : Fin 48) (l : Fin 512) :
    k0_pay78 (F := Ideal) acc W x (ix2 i l) = acc (ix2 i l) + ∑ r : Fin 256, x (ix2 i r) * W (ix2 r l) := by
  unfold k0_pay78
  rw [shapeCast_self]
  have h := Ideal.matmul_plain_apply (φ₁ := .bf16) none x W (constant (F := Ideal) S48x512 .f32 0x00000000#32) i l
  have hz : (constant (F := Ideal) S48x512 .f32 0x00000000#32 (ix2 i l) : EReal) = 0 := by
    show Ideal.ofBits .f32 0x00000000#32 = 0
    simp [Ideal.ofBits, Ideal.ieee]
  rw [hz, zero_add] at h
  exact congrArg (acc (ix2 i l) + ·) h

end Cert.KernelIdeal.Hand

end
-- ==== Proof.Half.lean ====
module

public import Idealize.ShloMosaic.PureOps.Ideal
public import Idealize.ShloMosaic.Lib.BitcastFour

/-! The sixteen-bit floats: the kernel puts together the value of a half from its bits; but for a NaN whose sign bit is set that
    is the value the format gives the bits. -/

@[expose] public section

namespace Cert.Half

open Idealize.ShloMosaic

/-- The bits of a half without the sign, in a wide word. -/
def mag (h : BitVec 16) : BitVec 32 := h.signExtend 32 &&& 32767#32

/-- The exponent field and the fraction field of a half. -/
def expo (h : BitVec 16) : ℕ := (h.extractLsb' 10 5).toNat
def frac (h : BitVec 16) : ℕ := (h.extractLsb' 0 10).toNat

/-- The bits without the sign are the fifteen low bits. -/
theorem mag_eq (h : BitVec 16) : mag h = (h.setWidth 15).setWidth 32 := by
  apply BitVec.eq_of_getLsbD_eq
  intro i hi
  interval_cases i <;> simp [mag, BitVec.getLsbD_signExtend, BitVec.getElem_signExtend, BitVec.getLsbD_ofNat, Nat.testBit]

theorem mag_toNat (h : BitVec 16) : (mag h).toNat = h.toNat % 32768 := by
  rw [mag_eq, BitVec.toNat_setWidth, BitVec.toNat_setWidth]
  omega

theorem mag_toInt (h : BitVec 16) : (mag h).toInt = h.toNat % 32768 := by
  rw [BitVec.toInt_eq_toNat_cond, mag_toNat]
  split <;> omega

theorem expo_eq (h : BitVec 16) : expo h = h.toNat / 1024 % 32 := by
  simp [expo, Nat.shiftRight_eq_div_pow]

theorem frac_eq (h : BitVec 16) : frac h = h.toNat % 1024 := by
  simp [frac]

theorem sign_eq (h : BitVec 16) : (h.extractLsb' 15 1 == 1#1) = decide (32768 ≤ h.toNat) := by
  have hn := h.isLt
  have e : h.extractLsb' 15 1 = 1#1 ↔ 32768 ≤ h.toNat := by
    rw [← BitVec.toNat_inj]
    simp [Nat.shiftRight_eq_div_pow]
    omega
  by_cases hc : 32768 ≤ h.toNat
  · simp [hc, e.2 hc]
  · simp only [hc, decide_false, beq_eq_false_iff_ne, ne_eq]
    exact fun h' => hc (e.1 h')

theorem half_toInt (h : BitVec 16) : h.toInt = if 32768 ≤ h.toNat then (h.toNat : ℤ) - 65536 else h.toNat := by
  have hn := h.isLt
  rw [BitVec.toInt_eq_toNat_cond]
  split <;> split <;> omega

/-- The shifted bits, as a number. -/
theorem shifted_toNat (h : BitVec 16) : (mag h <<< 13).toNat = h.toNat % 32768 * 8192 := by
  rw [BitVec.toNat_shiftLeft, mag_toNat, Nat.shiftLeft_eq]
  omega

theorem fields (h : BitVec 16) :
    (mag h).toInt = expo h * 1024 + frac h
    ∧ ((mag h <<< 13) + 939524096#32).extractLsb' 31 1 = 0#1
    ∧ (((mag h <<< 13) + 939524096#32).extractLsb' 23 8).toNat = expo h + 112
    ∧ (((mag h <<< 13) + 939524096#32).extractLsb' 0 23).toNat = frac h * 8192
    ∧ ((mag h <<< 13) ||| 2139095040#32).extractLsb' 31 1 = 0#1
    ∧ (((mag h <<< 13) ||| 2139095040#32).extractLsb' 23 8).toNat = 255
    ∧ (((mag h <<< 13) ||| 2139095040#32).extractLsb' 0 23).toNat = frac h * 8192
    ∧ (h.signExtend 32).slt 0#32 = (h.extractLsb' 15 1 == 1#1) := by
  have hn := h.isLt
  have hadd : ((mag h <<< 13) + 939524096#32).toNat = h.toNat % 32768 * 8192 + 939524096 := by
    rw [BitVec.toNat_add, shifted_toNat]
    show (_ + 939524096) % 2 ^ 32 = _
    omega
  refine ⟨?_, ?_, ?_, ?_, ?_, ?_, ?_, ?_⟩
  · rw [mag_toInt, expo_eq, frac_eq]; omega
  · rw [← BitVec.toNat_inj, BitVec.extractLsb'_toNat, hadd, Nat.shiftRight_eq_div_pow]
    show _ = 0
    omega
  · rw [BitVec.extractLsb'_toNat, hadd, Nat.shiftRight_eq_div_pow, expo_eq]
    omega
  · rw [BitVec.extractLsb'_toNat, hadd, Nat.shiftRight_eq_div_pow, frac_eq]
    omega
  · apply BitVec.eq_of_getLsbD_eq
    intro i hi
    interval_cases i <;> simp [mag_eq, BitVec.getLsbD_extractLsb', BitVec.getLsbD_ofNat, Nat.testBit]
  · have : ((mag h <<< 13) ||| 2139095040#32).extractLsb' 23 8 = 255#8 := by
      apply BitVec.eq_of_getLsbD_eq
      intro i hi
      interval_cases i <;> simp [mag_eq, BitVec.getLsbD_extractLsb', BitVec.getLsbD_ofNat, Nat.testBit]
    rw [this]; rfl
  · have : ((mag h <<< 13) ||| 2139095040#32).extractLsb' 0 23 = (mag h <<< 13).extractLsb' 0 23 := by
      apply BitVec.eq_of_getLsbD_eq
      intro i hi
      interval_cases i <;> simp [mag_eq, BitVec.getLsbD_extractLsb', BitVec.getLsbD_ofNat, Nat.testBit]
    rw [this, BitVec.extractLsb'_toNat, shifted_toNat, Nat.shiftRight_eq_div_pow, frac_eq]
    omega
  · rw [sign_eq]
    rw [Bool.eq_iff_iff, BitVec.slt, decide_eq_true_eq, decide_eq_true_eq,
      BitVec.toInt_signExtend_of_le (by decide), half_toInt]
    show _ < (0 : ℤ) ↔ _
    split <;> omega

/-- Where the halves below a limit lie, by their exponent field. -/
theorem limits (h : BitVec 16) :
    (mag h).slt 1024#32 = (expo h == 0) ∧ (mag h).slt 31744#32 = (expo h != 31)
    ∧ ((h.sle 64512#16 || (0#16).sle h) = true → (h.extractLsb' 15 1 == 1#1) = true → expo h = 31 → frac h = 0) := by
  have hn := h.isLt
  refine ⟨?_, ?_, ?_⟩
  · rw [expo_eq, Bool.eq_iff_iff]
    simp only [BitVec.slt, mag_toInt, decide_eq_true_eq, beq_iff_eq]
    show _ < (1024 : ℤ) ↔ _
    omega
  · rw [expo_eq, Bool.eq_iff_iff]
    simp only [BitVec.slt, mag_toInt, decide_eq_true_eq, bne_iff_ne, ne_eq]
    show _ < (31744 : ℤ) ↔ _
    omega
  · rw [sign_eq, expo_eq, frac_eq]
    simp only [BitVec.sle, Bool.or_eq_true, decide_eq_true_eq]
    rw [half_toInt]
    show (_ ≤ (-1024 : ℤ) ∨ (0 : ℤ) ≤ _) → _
    split <;> omega

/-- The value the kernel puts together from the bits of a half. -/
noncomputable def decoded (h : BitVec 16) : EReal :=
  if (h.signExtend 32).slt 0#32 then 0 - body h else body h
where
  /-- The value of the bits without the sign. -/
  body (h : BitVec 16) : EReal :=
    if (mag h).slt 1024#32 then (((mag h).toInt : ℝ) : EReal) * Ideal.ofBits .f32 0x33800000#32
    else if (mag h).slt 31744#32 then Ideal.ofBits .f32 ((mag h <<< 13) + 939524096#32)
    else Ideal.ofBits .f32 ((mag h <<< 13) ||| 2139095040#32)

/-- The unit of the halves below the normal ones. -/
theorem unit_eq : Ideal.ofBits .f32 0x33800000#32 = (((2 : ℝ) ^ (-24 : ℤ) : ℝ) : EReal) := by
  simp [Ideal.ofBits, Ideal.ieee, -EReal.coe_mul]
  norm_num

/-- The sign of a half, as a factor. -/
noncomputable def sgn (h : BitVec 16) : ℝ := if (h.extractLsb' 15 1 == 1#1) = true then -1 else 1

/-- The value without the sign, by the fields. -/
theorem body_eq (h : BitVec 16) : decoded.body h =
    if expo h = 31 then (if frac h = 0 then ⊤ else ⊥)
    else if expo h = 0 then (((frac h : ℝ) * (2 : ℝ) ^ (-24 : ℤ) : ℝ) : EReal)
    else ((((2 ^ 10 + frac h : ℕ) : ℝ) * (2 : ℝ) ^ ((expo h : ℤ) - 15 - 10) : ℝ) : EReal) := by
  obtain ⟨hi, a1, a2, a3, b1, b2, b3, -⟩ := fields h
  obtain ⟨l1, l2, -⟩ := limits h
  unfold decoded.body
  rw [l1, l2, hi, unit_eq]
  by_cases h31 : expo h = 31
  · simp only [h31]
    simp [Ideal.ofBits, Ideal.ieee, b1, b2, b3]
  · by_cases h0 : expo h = 0
    · have e1 : (expo h == 0) = true := by simpa using h0
      rw [e1, if_neg h31, if_pos h0, if_pos rfl, ← EReal.coe_mul, h0]
      simp
    · have e1 : (expo h == 0) = false := by simpa using h0
      have e2 : (expo h != 31) = true := by simpa using h31
      have hlt : expo h < 32 := (h.extractLsb' 10 5).isLt
      rw [e1, e2]
      simp only [h31, h0, if_false, if_true, Bool.false_eq_true]
      simp only [Ideal.ofBits, Ideal.ieee, Nat.reduceAdd, a1, a2, a3]
      have n1 : ¬ (expo h + 112 = 2 ^ 8 - 1) := by omega
      have n2 : ¬ (expo h + 112 = 0) := by omega
      rw [if_neg n1, if_neg n2]
      refine congrArg Real.toEReal ?_
      have c1 : ((2 ^ 23 + frac h * 8192 : ℕ) : ℝ) = ((2 ^ 10 + frac h : ℕ) : ℝ) * (2 : ℝ) ^ (13 : ℤ) := by
        push_cast; norm_num; ring
      have c2 : ((expo h + 112 : ℕ) : ℤ) - (2 ^ (8 - 1) - 1) - ((23 : ℕ) : ℤ) = ((expo h : ℤ) - 15 - 10) - 13 := by
        push_cast; norm_num; ring
      rw [c2, c1, zpow_sub₀ (by norm_num : (2 : ℝ) ≠ 0)]
      have : ((0#1 : BitVec 1) == 1#1) = false := rfl
      rw [this]
      simp only [Bool.false_eq_true, if_false, one_mul]
      field_simp

/-- THE VALUE OF A HALF: but for a NaN whose sign bit is set, what the kernel puts together is what the format says. -/
theorem decoded_eq (h : BitVec 16) (hp : (h.sle 64512#16 || (0#16).sle h) = true) :
    decoded h = Ideal.ofBits .f16 h := by
  obtain ⟨-, -, -, -, -, -, -, hs⟩ := fields h
  obtain ⟨-, -, hn⟩ := limits h
  have hn := hn hp
  have hof : Ideal.ofBits .f16 h =
      if expo h = 31 then (if frac h = 0 then (if (h.extractLsb' 15 1 == 1#1) = true then ⊥ else ⊤) else ⊥)
      else if expo h = 0 then ((sgn h * (frac h : ℝ) * (2 : ℝ) ^ (-24 : ℤ) : ℝ) : EReal)
      else ((sgn h * ((2 ^ 10 + frac h : ℕ) : ℝ) * (2 : ℝ) ^ ((expo h : ℤ) - 15 - 10) : ℝ) : EReal) := by
    simp only [Ideal.ofBits, Ideal.ieee, expo, frac, sgn]
    norm_num
  unfold decoded
  rw [hof, hs, body_eq]
  by_cases hsg : (h.extractLsb' 15 1 == 1#1) = true
  · have hn := hn hsg
    simp only [hsg, if_true, sgn]
    by_cases h31 : expo h = 31
    · simp [h31, hn h31]
    · by_cases h0 : expo h = 0
      · rw [if_neg h31, if_neg h31, if_pos h0, if_pos h0, zero_sub, ← EReal.coe_neg]
        congr 1; ring
      · simp only [h31, h0, if_false]
        rw [zero_sub, ← EReal.coe_neg]
        congr 1; ring
  · rw [Bool.not_eq_true] at hsg
    simp only [hsg, Bool.false_eq_true, if_false, sgn, one_mul]

end Cert.Half
-- ==== Proof.Scales.lean ====
module

public import proofs.«01_k».proof.Proof.Rows
public import proofs.«01_k».proof.Proof.Half
public import Idealize.ShloMosaic.Lib.Pipeline.ValueKit.Tiles

/-! The scale pairs a point writes into its scratch before the loop, read back at an index. -/

@[expose] public section

noncomputable section

namespace Cert.KernelIdeal.Hand

open Idealize.ShloMosaic Idealize.ShloMosaic.ValueIdx Idealize.SL.Sem Cert.KernelIdeal Cert.KernelIdeal.Gen

section
variable {F : FTy → Type} [FloatOps F]

/-- Row `n` of the sixteen rows of decoded halves. -/
theorem slices_row (n : Fin 16) : S16x512.Slices ![n.val, 0] S1x512 := by revert n; decide

/-- The sixteen rows of scale pairs of block `n`: the small scales times the block's decoded halves, each twice. -/
def scaleStore (n : Fin 16) (d : FVec F S16x512 .f32) (s : Vec F S1x16x512 .i8) : Vec F S16x2x512 .bf16 :=
  interleaveRows S16x2x512
    (shapeCast S16x1x512 (truncf .bf16 (mulf (sitofp .f32 (shapeCast S16x512 s shapeCasts_S1x16x512_S16x512) : FVec F S16x512 .f32)
      (broadcastTo S16x512 (extractStridedSlice S1x512 ![n.val, 0] d (slices_row n)) broadcasts_S1x512_S16x512))) shapeCasts_S16x512_S16x1x512)
    (shapeCast S16x1x512 (truncf .bf16 (mulf (sitofp .f32 (shapeCast S16x512 s shapeCasts_S1x16x512_S16x512) : FVec F S16x512 .f32)
      (broadcastTo S16x512 (extractStridedSlice S1x512 ![n.val, 0] d (slices_row n)) broadcasts_S1x512_S16x512))) shapeCasts_S16x512_S16x1x512)
    bitcasts_S16x2x512_w16_S16x1x512_w32

/-- Where block `n`'s rows lie in the scratch. -/
theorem store_inb (n : Fin 16) : ∀ a, (![16 * n.val, 0, 0] : Fin 3 → Nat) a + S16x2x512.size a ≤ S256x2x512.size a := by
  revert n; decide

/-- Block `n`'s store into the scratch. -/
def scalePiece (d : FVec F S16x512 .f32) (s : Fin 16 → Vec F S1x16x512 .i8) (n : Fin 16) : View.Piece (Elt F) S256x2x512 .bf16 :=
  ⟨Rect.unit (s := S256x2x512) ![16 * n.val, 0, 0] S16x2x512.size (store_inb n), scaleStore n d (s n)⟩

/-- The sixteen stores, the last one first. -/
def scalePieces (d : FVec F S16x512 .f32) (s : Fin 16 → Vec F S1x16x512 .i8) : List (View.Piece (Elt F) S256x2x512 .bf16) :=
  List.ofFn fun n : Fin 16 => scalePiece d s n.rev

end

/-- A scale pair at an index. -/
theorem scaleStore_apply (n : Fin 16) (d : FVec Ideal S16x512 .f32) (s : Vec Ideal S1x16x512 .i8) (k : Fin 16) (p : Fin 2) (l : Fin 512) :
    scaleStore (F := Ideal) n d s (ix3 k p l) = (((s (ix3 0 k l)).toInt : ℝ) : EReal) * d (ix2 n l) := by
  have key : ∀ j : S16x1x512.Idx, j = ix3 k 0 l →
      shapeCast S16x1x512 (truncf (F := Ideal) (φ := .f32) .bf16 (mulf (sitofp .f32 (shapeCast S16x512 s shapeCasts_S1x16x512_S16x512) : FVec Ideal S16x512 .f32)
        (broadcastTo S16x512 (extractStridedSlice S1x512 ![n.val, 0] d (slices_row n)) broadcasts_S1x512_S16x512))) shapeCasts_S16x512_S16x1x512 j
      = (((s (ix3 0 k l)).toInt : ℝ) : EReal) * d (ix2 n l) := by
    rintro j rfl
    refine (shapeCast_apply _ _ (ix3 k 0 l) (ix2 k l) (by
      refine (Shape.rowMajor_val_two _).trans ((Shape.rowMajor_val_three _).trans ?_).symm
      show (k.val * 1 + 0) * 512 + l.val = k.val * 512 + l.val
      omega)).trans ?_
    show (((shapeCast S16x512 s shapeCasts_S1x16x512_S16x512 (ix2 k l)).toInt : ℝ) : EReal)
      * broadcastTo S16x512 (extractStridedSlice S1x512 ![n.val, 0] d (slices_row n)) broadcasts_S1x512_S16x512 (ix2 k l) = _
    have h1 : shapeCast S16x512 s shapeCasts_S1x16x512_S16x512 (ix2 k l) = s (ix3 0 k l) := by
      refine (shapeCast_dropUnit_apply (n := 2) ![16, 512] _ _ (ix2 k l)).trans ?_
      congr 1
      funext a
      match a with
      | ⟨0, _⟩ => rfl
      | ⟨1, _⟩ => rfl
      | ⟨2, _⟩ => rfl
    have h2 : broadcastTo S16x512 (extractStridedSlice S1x512 ![n.val, 0] d (slices_row n)) broadcasts_S1x512_S16x512 (ix2 k l) = d (ix2 n l) := by
      unfold broadcastTo extractStridedSlice
      congr 1
      funext a
      match a with
      | ⟨0, _⟩ => rfl
      | ⟨1, _⟩ => exact Fin.ext (Nat.zero_add _)
    rw [h1, h2]
  unfold scaleStore interleaveRows
  dsimp only
  split
  · exact key _ (by funext b; match b with | ⟨0, _⟩ => rfl | ⟨1, _⟩ => exact Fin.ext (by show p.val / 2 = 0; omega) | ⟨2, _⟩ => rfl)
  · exact key _ (by funext b; match b with | ⟨0, _⟩ => rfl | ⟨1, _⟩ => exact Fin.ext (by show p.val / 2 = 0; omega) | ⟨2, _⟩ => rfl)

/-- The scratch after the sixteen stores: row `16 n + k` holds the scales of block `n`'s group `k`. -/
theorem scratch_apply {sig : RefSig} {κ : Kind} {sp : Space} (v : View sig κ sp S256x2x512 .bf16) (f : v.ty.Contents (Elt Ideal))
    (d : FVec Ideal S16x512 .f32) (s : Fin 16 → Vec Ideal S1x16x512 .i8) (q : Fin 256) (p : Fin 2) (l : Fin 512) (n k : Fin 16) (hq : q.val = 16 * n.val + k.val) :
    v.read (Elt Ideal) (v.writes (Elt Ideal) f (scalePieces (F := Ideal) d s)) (ix3 q p l) = (((s n (ix3 0 k l)).toInt : ℝ) : EReal) * d (ix2 n l) := by
  refine (View.read_writes_apply_of_pieces v f (fun y : S256x2x512.Idx =>
      ((((s ⟨(y 0).val / 16, by have : (y 0).val < 256 := (y 0).isLt; omega⟩ (ix3 0 ⟨(y 0).val % 16, by omega⟩ (y 2))).toInt : ℝ) : EReal)
        * d (ix2 ⟨(y 0).val / 16, by have : (y 0).val < 256 := (y 0).isLt; omega⟩ (y 2)) : EReal)) (scalePieces (F := Ideal) d s) ?_ (ix3 q p l) ?_).trans ?_
  · intro pc hpc x
    unfold scalePieces at hpc
    rw [List.mem_ofFn] at hpc
    obtain ⟨m, rfl⟩ := hpc
    generalize m.rev = m
    have hx : x = ix3 (x 0) (x 1) (x 2) := by
      funext a
      match a with
      | ⟨0, _⟩ => rfl
      | ⟨1, _⟩ => rfl
      | ⟨2, _⟩ => rfl
    have h0 : (((scalePiece (F := Ideal) d s m).1.emb x) 0).val = 16 * m.val + (x 0).val := Rect.idx_unit_val (s := S256x2x512) _ _ (store_inb m) x 0
    have h2 : (((scalePiece (F := Ideal) d s m).1.emb x) 2) = x 2 := Fin.ext ((Rect.idx_unit_val (s := S256x2x512) _ _ (store_inb m) x 2).trans (Nat.zero_add _))
    have hx0 : (x 0).val < 16 := (x 0).isLt
    have e1 : (((scalePiece (F := Ideal) d s m).1.emb x) 0).val / 16 = m.val := by omega
    have e2 : (((scalePiece (F := Ideal) d s m).1.emb x) 0).val % 16 = (x 0).val := by omega
    have := scaleStore_apply m d (s m) (x 0) (x 1) (x 2)
    refine Eq.trans ?_ (this.trans ?_)
    · exact congrArg (scaleStore (F := Ideal) m d (s m)) hx
    · dsimp only
      simp only [e1, e2, h2]
      rfl
  · refine ⟨scalePiece d s n, ?_, ?_⟩
    · unfold scalePieces
      rw [List.mem_ofFn]
      exact ⟨n.rev, by rw [Fin.rev_rev]⟩
    · refine (Rect.mem_set_unit (s := S256x2x512) (off := ![16 * n.val, 0, 0]) (size := S16x2x512.size) (inb := store_inb n)).mpr fun a => ?_
      match a with
      | ⟨0, _⟩ => exact ⟨by show 16 * n.val ≤ q.val; omega, by show q.val < 16 * n.val + 16; omega⟩
      | ⟨1, _⟩ => exact ⟨Nat.zero_le _, by show p.val < 0 + 2; omega⟩
      | ⟨2, _⟩ => exact ⟨Nat.zero_le _, by show l.val < 0 + 512; omega⟩
  · have e1 : (⟨q.val / 16, by omega⟩ : Fin 16) = n := Fin.ext (by show q.val / 16 = n.val; omega)
    have e2 : (⟨q.val % 16, by omega⟩ : Fin 16) = k := Fin.ext (by show q.val % 16 = k.val; omega)
    show (((s ⟨q.val / 16, _⟩ (ix3 0 ⟨q.val % 16, _⟩ l)).toInt : ℝ) : EReal) * d (ix2 ⟨q.val / 16, _⟩ l) = _
    rw [e1, e2]

/-- A choice by a signed comparison. -/
theorem select_slt {α : Type} (x y : BitVec 32) (a b : α) :
    Scalar.select (IntOp.cmpi .slt x y) a b = if x.slt y = true then a else b := by
  unfold Scalar.select IntOp.cmpi
  cases h : x.slt y <;> simp [h]

/-- A decoded half, a quarter of it. -/
theorem pay50_apply (x : Vec Ideal S16x512 .i16) (n : Fin 16) (l : Fin 512) :
    k0_pay50 (F := Ideal) x (ix2 n l) = Cert.Half.decoded (x (ix2 n l)) * Ideal.ofBits .f32 0x3E800000#32 := by
  have hz : Ideal.ofBits .f32 0x00000000#32 = 0 := by simp [Ideal.ofBits, Ideal.ieee]
  unfold k0_pay50
  rw [shapeCast_self]
  simp only [mulf, select, subf, cmpi, andi, extsi, broadcast, shli, addi, ori, bitcastToFloat, sitofp]
  unfold Cert.Half.decoded Cert.Half.decoded.body Cert.Half.mag
  rw [← hz]
  generalize x (ix2 n l) = w
  have hs : ∀ (x : BitVec 32) , IntOp.shli ArithUnit.vector x 13#32 = x <<< 13 := fun x => rfl
  simp only [select_slt, hs]
  rfl

end Cert.KernelIdeal.Hand

end
-- ==== Proof.Loop.lean ====
module

public import proofs.«01_k».proof.Proof.Scales

/-! The loop's value: what it adds to the accumulator, as a sum over its trips and their 256 rows, of the
    activations times codes times scales. -/

@[expose] public section

noncomputable section

namespace Cert.KernelIdeal.Hand

open Idealize.ShloMosaic Idealize.ShloMosaic.ValueIdx Idealize.SL.Sem Cert.KernelIdeal Cert.KernelIdeal.Gen Cert.Codes

/-- The weight of row `r = 128 h + 32 f + 16 g + u` of trip `k`: four times the code less 32, times the scale of the row's group. -/
def weight (x1 : Vec Ideal S2048x512 .i8) (x2 : Vec Ideal S1024x512 .i8) (d : FVec Ideal S16x512 .f32) (s : Fin 16 → Vec Ideal S1x16x512 .i8)
    (k : Fin 16) (h : Fin 2) (f : Fin 4) (g : Fin 2) (u : Fin 16) (l : Fin 512) : EReal :=
  (((4 * (((code f (x1 (ix2 ⟨128 * k.val + 64 * h.val + (16 * g.val + u.val), by omega⟩ l))
      (x1 (ix2 ⟨128 * k.val + 64 * h.val + 32 + (16 * g.val + u.val), by omega⟩ l))
      (x2 (ix2 ⟨64 * k.val + 32 * h.val + (16 * g.val + u.val), by omega⟩ l))).toNat : ℤ) - 32) : ℤ) : ℝ) : EReal)
    * ((((s k (ix3 0 ⟨8 * h.val + 2 * f.val + g.val, by omega⟩ l)).toInt : ℝ) : EReal) * d (ix2 k l))

/-- What trip `k` adds at an index, in the block of activations that starts at column `4096 kb`. -/
def tripSum (x0 : Vec Ideal S48x16384 .bf16) (x1 : Vec Ideal S2048x512 .i8) (x2 : Vec Ideal S1024x512 .i8) (d : FVec Ideal S16x512 .f32)
    (s : Fin 16 → Vec Ideal S1x16x512 .i8) (kb : Fin 4) (k : Fin 16) (a : Fin 48) (l : Fin 512) : EReal :=
  ∑ r : Fin 256, x0 (ix2 a ⟨4096 * kb.val + 256 * k.val + r.val, by omega⟩)
    * weight x1 x2 d s k ⟨r.val / 128, by omega⟩ ⟨r.val / 32 % 4, by omega⟩ ⟨r.val / 16 % 2, by omega⟩ ⟨r.val % 16, by omega⟩ l

/-- Rows of bytes loaded from a block, at an index. -/
theorem load_rows {n : Nat} {κ : Kind} {sp : Space} (v : Memref sig κ sp ⟨2, ![n, 512]⟩ .i8) (hv : v.IsWhole) (x : Vec Ideal ⟨2, ![n, 512]⟩ .i8)
    (off : Fin 2 → Nat) (inb : ∀ a, off a + S32x512.size a ≤ (⟨2, ![n, 512]⟩ : Shape).size a) (o : Nat) (ho : off = ![o, 0]) (p : Fin 32) (l : Fin 512) (hb : o + p.val < n) :
    View.readAt (Elt Ideal) v.view (Rect.unit (s := ⟨2, ![n, 512]⟩) off S32x512.size inb).toLoadRect (hv.unread x) (ix2 p l) = x (ix2 ⟨o + p.val, hb⟩ l) := by
  subst ho
  rw [View.readAt_eq_ld, hv.read_unread]
  exact View.ld_unit_apply_of x ![o, 0] S32x512.size inb (ix2 p l) (ix2 ⟨o + p.val, hb⟩ l) (fun a => by
    match a with
    | ⟨0, _⟩ => rfl
    | ⟨1, _⟩ => exact (Nat.zero_add _).symm)

/-- A code as a number depends on its three bytes. -/
theorem codes_congr (f : Fin 4) (a a' b b' q q' : BitVec 8) (ha : a = a') (hb : b = b') (hq : q = q') :
    (((4 * (((code f a b q).toNat : ℤ) - 32) : ℤ) : ℝ) : EReal) = (((4 * (((code f a' b' q').toNat : ℤ) - 32) : ℤ) : ℝ) : EReal) := by
  rw [ha, hb, hq]

/-- A row of scale pairs loaded from the scratch, at an index. -/
theorem load_scale {sig : RefSig} {κ : Kind} {sp : Space} (v : View sig κ sp S256x2x512 .bf16) (f9 : v.ty.Contents (Elt Ideal))
    (d : FVec Ideal S16x512 .f32) (s : Fin 16 → Vec Ideal S1x16x512 .i8)
    (off : Fin 3 → Nat) (inb : ∀ a, off a + S1x2x512.size a ≤ S256x2x512.size a) (n k : Fin 16) (o : Nat) (ho : off = ![o, 0, 0]) (hn : o = 16 * n.val + k.val) (p : Fin 2) (l : Fin 512) :
    View.readAt (Elt Ideal) v (Rect.unit (s := S256x2x512) off S1x2x512.size inb).toLoadRect (v.writes (Elt Ideal) f9 (scalePieces (F := Ideal) d s)) (ix3 0 p l)
      = (((s n (ix3 0 k l)).toInt : ℝ) : EReal) * d (ix2 n l) := by
  have hread : ∀ (X : Vec Ideal S256x2x512 .bf16), View.ld X (Rect.unit (s := S256x2x512) off S1x2x512.size inb) (ix3 0 p l) = X (ix3 ⟨o, by omega⟩ p l) := by
    intro X
    subst ho
    refine View.ld_unit_apply_of X ![o, 0, 0] S1x2x512.size inb (ix3 0 p l) (ix3 ⟨o, by omega⟩ p l) (fun b => ?_)
    match b with
    | ⟨0, _⟩ => rfl
    | ⟨1, _⟩ => exact (Nat.zero_add _).symm
    | ⟨2, _⟩ => exact (Nat.zero_add _).symm
  exact (hread _).trans (scratch_apply v f9 d s ⟨o, by omega⟩ p l n k hn)

section
variable (𝒱 : Variants) (c : Dev nD) (bd : Option 𝒱.V) (i : grid0.Coords) (arg2 : Memref sig .tc .vmem S48x16384 .bf16) (harg2 : arg2.IsWhole) (arg3 : Memref sig .tc .vmem S2048x512 .i8) (harg3 : arg3.IsWhole) (arg4 : Memref sig .tc .vmem S1024x512 .i8) (harg4 : arg4.IsWhole) (arg5 : Memref sig .tc .vmem S16x16x512 .i8) (harg5 : arg5.IsWhole) (arg6 : Memref sig .tc .vmem S16x512 .i16) (harg6 : arg6.IsWhole) (arg7 : Memref sig .tc .vmem S48x512 .bf16) (harg7 : arg7.IsWhole) (arg8 : Memref sig .tc .vmem S48x512 .f32) (harg8 : arg8.IsWhole) (arg9 : Memref sig .tc .vmem S256x2x512 .bf16) (harg9 : arg9.IsWhole) (arg1 : BitVec 32)
  (x0 : Vec Ideal S48x16384 .bf16) (x1 : Vec Ideal S2048x512 .i8) (x2 : Vec Ideal S1024x512 .i8) (v33 d : FVec Ideal S16x512 .f32) (s : Fin 16 → Vec Ideal S1x16x512 .i8)
  (f9 : BufTy.Contents (Elt Ideal) arg9.view.ty)

/-- One trip at an index. -/
theorem trip_apply (k : Fin k0_t1_loop.trips) (kk : Fin 16) (hk : kk.val = k.val) (kb : Fin 4) (hkb : kb.val = (i 1).val) (acc : Vec Ideal S48x512 .f32) (a : Fin 48) (l : Fin 512) :
    tripR_k0_t1 (F := Ideal) 𝒱 c bd i arg2 harg2 arg3 harg3 arg4 harg4 arg5 harg5 arg6 harg6 arg7 harg7 arg8 harg8 arg9 harg9 arg1 v33
        (harg2.unread x0) (harg3.unread x1) (harg4.unread x2) (arg9.view.writes (Elt Ideal) f9 (scalePieces (F := Ideal) d s)) k acc (ix2 a l)
      = acc (ix2 a l) + tripSum x0 x1 x2 d s kb kk a l := by
  rw [trip_eq, pay78_apply]
  unfold tripSum
  congr 1
  refine Finset.sum_congr rfl fun r _ => ?_
  have hx : View.readAt (Elt Ideal) arg2.view (Rect.unit (s := S48x16384) (k0_off5 i k) S48x256.size (k0_off5_inb i k)).toLoadRect (harg2.unread x0) (ix2 a r)
      = x0 (ix2 a ⟨4096 * kb.val + 256 * kk.val + r.val, by omega⟩) := by
    rw [View.readAt_eq_ld, harg2.read_unread]
    refine View.ld_unit_apply_of x0 (k0_off5 i k) S48x256.size _ (ix2 a r) (ix2 a ⟨4096 * kb.val + 256 * kk.val + r.val, by omega⟩) fun b => ?_
    refine Eq.trans ?_ (congrArg (· + (ix2 a r b).val) (congrFun (k0_off5_eq i k) b).symm)
    match b with
    | ⟨0, _⟩ => exact (Nat.zero_add _).symm
    | ⟨1, _⟩ => show 4096 * kb.val + 256 * kk.val + r.val = 4096 * (i 1).val + 256 * k.val + r.val; omega
  rw [hx]
  congr 1
  refine (rows_apply _ _ _ _ ⟨r.val / 128, by omega⟩ ⟨r.val / 32 % 4, by omega⟩ ⟨r.val / 16 % 2, by omega⟩ ⟨r.val % 16, by omega⟩ r
    (by show r.val = 128 * (r.val / 128) + 32 * (r.val / 32 % 4) + 16 * (r.val / 16 % 2) + r.val % 16; omega) l).trans ?_
  generalize (⟨r.val / 128, by omega⟩ : Fin 2) = h
  generalize (⟨r.val / 32 % 4, by omega⟩ : Fin 4) = f
  generalize (⟨r.val / 16 % 2, by omega⟩ : Fin 2) = g
  generalize (⟨r.val % 16, by omega⟩ : Fin 16) = u
  unfold weight
  have hA := load_rows arg3 harg3 x1 _ (k0_off1_inb k h) (128 * kk.val + 64 * h.val) ((k0_off1_eq k h).trans (by rw [hk])) ⟨16 * g.val + u.val, by omega⟩ l (by show _ + (16 * g.val + u.val) < 2048; omega)
  have hB := load_rows arg3 harg3 x1 _ (k0_off2_inb k h) (128 * kk.val + 64 * h.val + 32) ((k0_off2_eq k h).trans (by rw [hk])) ⟨16 * g.val + u.val, by omega⟩ l (by show _ + (16 * g.val + u.val) < 2048; omega)
  have hQ := load_rows arg4 harg4 x2 _ (k0_off3_inb k h) (64 * kk.val + 32 * h.val) ((k0_off3_eq k h).trans (by rw [hk])) ⟨16 * g.val + u.val, by omega⟩ l (by show _ + (16 * g.val + u.val) < 1024; omega)
  refine congrArg₂ (· * ·) ?_ ?_
  · exact codes_congr f _ _ _ _ _ _ hA hB hQ
  · exact load_scale arg9.view f9 d s _ (k0_off4_inb k h f g) kk ⟨8 * h.val + 2 * f.val + g.val, by omega⟩
      (16 * k.val + 8 * h.val + 2 * f.val + g.val) (k0_off4_eq k h f g) (by show _ = 16 * kk.val + (8 * h.val + 2 * f.val + g.val); omega) ⟨u.val % 2, by omega⟩ l

/-- The loop after `n` trips, at an index. -/
theorem loop_apply (kb : Fin 4) (hkb : kb.val = (i 1).val) (init : Vec Ideal S48x512 .f32) (a : Fin 48) (l : Fin 512) :
    ∀ (n : Nat) (hn : n ≤ 16),
    st_k0_t1 (F := Ideal) 𝒱 c bd i arg2 harg2 arg3 harg3 arg4 harg4 arg5 harg5 arg6 harg6 arg7 harg7 arg8 harg8 arg9 harg9 arg1 v33
        (harg2.unread x0) (harg3.unread x1) (harg4.unread x2) (arg9.view.writes (Elt Ideal) f9 (scalePieces (F := Ideal) d s)) init n (ix2 a l)
      = init (ix2 a l) + ∑ k : Fin n, tripSum x0 x1 x2 d s kb ⟨k.val, by omega⟩ a l
  | 0, _ => by simp [st_k0_t1_zero]
  | n + 1, hn => by
    have ht : k0_t1_loop.trips = 16 := by decide +kernel
    rw [st_k0_t1_succ (F := Ideal) 𝒱 c bd i arg2 harg2 arg3 harg3 arg4 harg4 arg5 harg5 arg6 harg6 arg7 harg7 arg8 harg8 arg9 harg9 arg1 v33 _ _ _ _ init ⟨n, by omega⟩]
    rw [trip_apply 𝒱 c bd i arg2 harg2 arg3 harg3 arg4 harg4 arg5 harg5 arg6 harg6 arg7 harg7 arg8 harg8 arg9 harg9 arg1 x0 x1 x2 v33 d s f9 ⟨n, by omega⟩ ⟨n, by omega⟩ rfl kb hkb]
    rw [loop_apply kb hkb init a l n (by omega), Fin.sum_univ_castSucc, add_assoc]
    rfl

end

end Cert.KernelIdeal.Hand

end
-- ==== Proof.Points.lean ====
module

public import proofs.«01_k».proof.Proof.Loop

/-! What a grid point leaves: in the accumulator, what was there plus the point's sum; in the output block, at a
    run's last point, the accumulator. -/

@[expose] public section

noncomputable section

namespace Cert.KernelIdeal.Hand

open Idealize.ShloMosaic Idealize.ShloMosaic.TcCoe Idealize.ShloMosaic.ValueIdx Idealize.SL.Sem Cert.KernelIdeal Cert.KernelIdeal.Gen Cert.Codes
open Idealize.ShloMosaic.Tactic

/-- Where block `n`'s small scales lie. -/
theorem small_inb (n : Fin 16) : ∀ a, (![n.val, 0, 0] : Fin 3 → Nat) a + S1x16x512.size a ≤ S16x16x512.size a := by
  revert n; decide

/-- The small scales of block `n`. -/
def small (x3 : Vec Ideal S16x16x512 .i8) (n : Fin 16) : Vec Ideal S1x16x512 .i8 :=
  View.ld x3 (Rect.unit (s := S16x16x512) ![n.val, 0, 0] S1x16x512.size (small_inb n))

/-- What a point adds at an index. -/
def pointSum (x0 : Vec Ideal S48x16384 .bf16) (x1 : Vec Ideal S2048x512 .i8) (x2 : Vec Ideal S1024x512 .i8) (x3 : Vec Ideal S16x16x512 .i8)
    (x4 : Vec Ideal S16x512 .i16) (kb : Fin 4) (a : Fin 48) (l : Fin 512) : EReal :=
  ∑ k : Fin 16, tripSum x0 x1 x2 (k0_pay50 (F := Ideal) x4) (small x3) kb k a l

theorem hz : (![0, 0] : Fin 2 → Nat) = fun _ => 0 := by funext a; fin_cases a <;> rfl

section
variable (c : Dev nD) (i : grid0.Coords) (arg2 : Memref sig .tc .vmem S48x16384 .bf16) (harg2 : arg2.IsWhole) (arg3 : Memref sig .tc .vmem S2048x512 .i8) (harg3 : arg3.IsWhole) (arg4 : Memref sig .tc .vmem S1024x512 .i8) (harg4 : arg4.IsWhole) (arg5 : Memref sig .tc .vmem S16x16x512 .i8) (harg5 : arg5.IsWhole) (arg6 : Memref sig .tc .vmem S16x512 .i16) (harg6 : arg6.IsWhole) (arg7 : Memref sig .tc .vmem S48x512 .bf16) (harg7 : arg7.IsWhole) (arg8 : Memref sig .tc .vmem S48x512 .f32) (harg8 : arg8.IsWhole) (arg9 : Memref sig .tc .vmem S256x2x512 .bf16) (harg9 : arg9.IsWhole)
  (x0 : Vec Ideal S48x16384 .bf16) (x1 : Vec Ideal S2048x512 .i8) (x2 : Vec Ideal S1024x512 .i8) (x3 : Vec Ideal S16x16x512 .i8) (x4 : Vec Ideal S16x512 .i16) (xs0 : Vec Ideal S48x512 .f32)

/-- Case B: the accumulator after the point. -/
theorem acc_B (hc0 : ¬cond0_0 i) (hc1 : ¬cond0_1 i) (kb : Fin 4) (hkb : kb.val = (i 1).val) (a : Fin 48) (l : Fin 512) :
    sout0_B_0 (F := Ideal) c i arg2 harg2 arg3 harg3 arg4 harg4 arg5 harg5 arg6 harg6 arg7 harg7 arg8 harg8 arg9 harg9 hc0 hc1 x0 x1 x2 x3 x4 xs0 (ix2 a l) = xs0 (ix2 a l) + pointSum x0 x1 x2 x3 x4 kb a l := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  unfold k0_pay79
  rw [shapeCast_self]
  rw [show Scf.trips 0#32 (Scalar.addi 0#32 16#32) 1#32 = 16 from by decide +kernel]
  simp only [View.readAt_eq_ld, harg5.read_unread, harg6.read_unread, harg8.read_unread, View.ld_unit_zero (S := S16x512) hz, View.ld_unit_zero (S := S48x512) hz]
  exact loop_apply Variants.none c none i arg2 harg2 arg3 harg3 arg4 harg4 arg5 harg5 arg6 harg6 arg7 harg7 arg8 harg8 arg9 harg9 _ x0 x1 x2 (k0_pay50 (F := Ideal) x4) (k0_pay50 (F := Ideal) x4) (small x3) arg9.view.junk kb hkb xs0 a l 16 (le_refl 16)

/-- Case A: the accumulator after the point. -/
theorem acc_A (hc0 : cond0_0 i) (hc1 : ¬cond0_1 i) (kb : Fin 4) (hkb : kb.val = (i 1).val) (a : Fin 48) (l : Fin 512) :
    sout0_A_0 (F := Ideal) c i arg2 harg2 arg3 harg3 arg4 harg4 arg5 harg5 arg6 harg6 arg7 harg7 arg8 harg8 arg9 harg9 hc0 hc1 x0 x1 x2 x3 x4 (ix2 a l) = pointSum x0 x1 x2 x3 x4 kb a l := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S48x512) hz]
  unfold k0_pay79
  rw [shapeCast_self]
  rw [show Scf.trips 0#32 (Scalar.addi 0#32 16#32) 1#32 = 16 from by decide +kernel]
  rw [View.readCov_unit_zero (S := S48x512) _ hz]
  simp only [View.readAt_eq_ld, harg5.read_unread, harg6.read_unread, View.ld_unit_zero (S := S16x512) hz]
  refine (loop_apply Variants.none c none i arg2 harg2 arg3 harg3 arg4 harg4 arg5 harg5 arg6 harg6 arg7 harg7 arg8 harg8 arg9 harg9 _ x0 x1 x2 (k0_pay50 (F := Ideal) x4) (k0_pay50 (F := Ideal) x4) (small x3) arg9.view.junk kb hkb _ a l 16 (le_refl 16)).trans ?_
  have hz0 : k0_pay49 (F := Ideal) (ix2 a l) = (0 : EReal) := by
    unfold k0_pay49
    show Ideal.ofBits .f32 0x00000000#32 = 0
    simp [Ideal.ofBits, Ideal.ieee]
  rw [hz0, zero_add]
  rfl

/-- Case C: the accumulator after the point. -/
theorem acc_C (hc0 : ¬cond0_0 i) (hc1 : cond0_1 i) (kb : Fin 4) (hkb : kb.val = (i 1).val) (a : Fin 48) (l : Fin 512) :
    sout0_C_0 (F := Ideal) c i arg2 harg2 arg3 harg3 arg4 harg4 arg5 harg5 arg6 harg6 arg7 harg7 arg8 harg8 arg9 harg9 hc0 hc1 x0 x1 x2 x3 x4 xs0 (ix2 a l) = xs0 (ix2 a l) + pointSum x0 x1 x2 x3 x4 kb a l := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  unfold k0_pay79
  rw [shapeCast_self]
  rw [show Scf.trips 0#32 (Scalar.addi 0#32 16#32) 1#32 = 16 from by decide +kernel]
  simp only [View.readAt_eq_ld, harg5.read_unread, harg6.read_unread, harg8.read_unread, View.ld_unit_zero (S := S16x512) hz, View.ld_unit_zero (S := S48x512) hz]
  exact loop_apply Variants.none c none i arg2 harg2 arg3 harg3 arg4 harg4 arg5 harg5 arg6 harg6 arg7 harg7 arg8 harg8 arg9 harg9 _ x0 x1 x2 (k0_pay50 (F := Ideal) x4) (k0_pay50 (F := Ideal) x4) (small x3) arg9.view.junk kb hkb xs0 a l 16 (le_refl 16)

/-- Case C: the output block after the point is the accumulator. -/
theorem out_C (hc0 : ¬cond0_0 i) (hc1 : cond0_1 i) (a : Fin 48) (l : Fin 512) :
    out0_C_5 (F := Ideal) c i arg2 harg2 arg3 harg3 arg4 harg4 arg5 harg5 arg6 harg6 arg7 harg7 arg8 harg8 arg9 harg9 hc0 hc1 x0 x1 x2 x3 x4 xs0 (ix2 a l) = (sout0_C_0 (F := Ideal) c i arg2 harg2 arg3 harg3 arg4 harg4 arg5 harg5 arg6 harg6 arg7 harg7 arg8 harg8 arg9 harg9 hc0 hc1 x0 x1 x2 x3 x4 xs0 (ix2 a l) : EReal) := by
  unfold out0_C_5 sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0), View.read_writes_eq_canon _ _ _ (cover0_C_5 c i arg2 harg2 arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz, View.canon_unit_zero hz, View.readCov_unit_zero (S := S48x512) _ hz]
  rfl

end

end Cert.KernelIdeal.Hand

end
-- ==== Proof.Fold.lean ====
module

public import proofs.«01_k».proof.Proof.Points
public import proofs.«01_k».proof.Proof.Gen.KernelIdeal.Value

/-! What the result array holds: the four points of a column tile's run, added up. -/

@[expose] public section

noncomputable section

namespace Cert.KernelIdeal.Hand

open Idealize.ShloMosaic Idealize.ShloMosaic.TcCoe Idealize.ShloMosaic.ValueIdx Idealize.SL.Sem Cert.KernelIdeal Cert.KernelIdeal.Gen

/-- The second grid coordinate of a point. -/
theorem coord_one : ∀ t : Fin cfg0.N, (grid0.coords t 1).val = t.val % 4 := by
  decide +kernel

variable (m : (ℓ : Loc nD τ sig) → Buf (Elt Ideal) ℓ) (c : Dev nD)

/-- The second of a pair that is known, at an index. -/
theorem snd_apply {A B C : Type} {P : A × (B → C)} {x : A} {y : B → C} (h : P = (x, y)) {i : B} {z : C} (hy : y i = z) : P.2 i = z := by
  subst h; exact hy

/-- The first of a pair that is known, at an index. -/
theorem fst_apply {A B C : Type} {P : (B → C) × A} {x : B → C} {y : A} (h : P = (x, y)) {i : B} {z : C} (hy : x i = z) : P.1 i = z := by
  subst h; exact hy

/-- What point `t` adds. -/
def pointAdd (t : Fin cfg0.N) (kb : Fin 4) (a : Fin 48) (l : Fin 512) : EReal :=
  pointSum (iblk m c 0 t) (iblk m c 1 t) (iblk m c 2 t) (iblk m c 3 t) (iblk m c 4 t) kb a l

/-- The first point of a run leaves what it adds. -/
theorem step_A (t : Fin cfg0.N) (kb : Fin 4) (hkb : kb.val = t.val % 4) (h0 : t.val % 4 = 0) (a : Fin 48) (l : Fin 512) :
    (outsAt0 m c t.val t.isLt).2 (ix2 a l) = pointAdd m c t kb a l := by
  have h1 : ¬t.val % 4 = 3 := by omega
  have hacc := acc_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h)) kb (hkb.trans (coord_one t).symm) a l
  exact snd_apply (outsAt0_A m c t h0 h1) hacc

/-- A middle point adds to what the point before left. -/
theorem step_B (t s : Fin cfg0.N) (hs : s.val = t.val - 1) (kb : Fin 4) (hkb : kb.val = t.val % 4) (h0 : ¬t.val % 4 = 0) (h1 : ¬t.val % 4 = 3) (a : Fin 48) (l : Fin 512) :
    (outsAt0 m c t.val t.isLt).2 (ix2 a l) = ((outsAt0 m c s.val s.isLt).2 (ix2 a l) + pointAdd m c t kb a l : EReal) := by
  obtain ⟨s, hs'⟩ := s
  dsimp only at hs
  subst hs
  have hacc := acc_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (fun h => h0 ((hcond0_0 t).mp h)) (fun h => h1 ((hcond0_1 t).mp h)) kb (hkb.trans (coord_one t).symm) a l
  exact snd_apply (outsAt0_B m c t h0 h1) hacc

/-- The last point of a run adds too, and leaves the sum in the output block. -/
theorem step_C (t s : Fin cfg0.N) (hs : s.val = t.val - 1) (kb : Fin 4) (hkb : kb.val = t.val % 4) (h1 : t.val % 4 = 3) (a : Fin 48) (l : Fin 512) :
    (outsAt0 m c t.val t.isLt).1 (ix2 a l) = ((outsAt0 m c s.val s.isLt).2 (ix2 a l) + pointAdd m c t kb a l : EReal) := by
  obtain ⟨s, hs'⟩ := s
  dsimp only at hs
  subst hs
  have h0 : ¬t.val % 4 = 0 := by omega
  have hacc := acc_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (fun h => h0 ((hcond0_0 t).mp h)) ((hcond0_1 t).mpr h1) kb (hkb.trans (coord_one t).symm) a l
  have hout := out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (fun h => h0 ((hcond0_0 t).mp h)) ((hcond0_1 t).mpr h1) a l
  exact fst_apply (outsAt0_C m c t h0 h1) (hout.trans hacc)

/-- Point `kb` of column tile `q`. -/
def pt (q : Fin 16) (kb : Fin 4) : Fin cfg0.N := ⟨4 * q.val + kb.val, lt_of_lt_of_eq (by omega) N_0.symm⟩

/-- The output block a run leaves. -/
theorem run_apply (q : Fin 16) (a : Fin 48) (l : Fin 512) :
    (outsAt0 m c (pt q 3).val (pt q 3).isLt).1 (ix2 a l) = (∑ kb : Fin 4, pointAdd m c (pt q kb) kb a l : EReal) := by
  rw [Fin.sum_univ_four]
  have e0 : (pt q 0).val = 4 * q.val + 0 := rfl
  have e1 : (pt q 1).val = 4 * q.val + 1 := rfl
  have e2 : (pt q 2).val = 4 * q.val + 2 := rfl
  have e3 : (pt q 3).val = 4 * q.val + 3 := rfl
  refine (step_C m c (pt q 3) (pt q 2) (by omega) 3 (by rw [e3]; show 3 = _; omega) (by omega) a l).trans ?_
  refine congrArg (fun z : EReal => z + pointAdd m c (pt q 3) 3 a l) ?_
  refine (step_B m c (pt q 2) (pt q 1) (by omega) 2 (by rw [e2]; show 2 = _; omega) (by omega) (by omega) a l).trans ?_
  refine congrArg (fun z : EReal => z + pointAdd m c (pt q 2) 2 a l) ?_
  refine (step_B m c (pt q 1) (pt q 0) (by omega) 1 (by rw [e1]; show 1 = _; omega) (by omega) (by omega) a l).trans ?_
  refine congrArg (fun z : EReal => z + pointAdd m c (pt q 1) 1 a l) ?_
  exact step_A m c (pt q 0) 0 (by rw [e0]; show 0 = _; omega) (by omega) a l

/-- The result array, at an index. -/
theorem result_apply (a : Fin 48) (n : Fin 8192) (q : Fin 16) (l : Fin 512) (hn : n.val = 512 * q.val + l.val) :
    Value.G5 m c (ix2 a n) = (∑ kb : Fin 4, pointAdd m c (pt q kb) kb a l : EReal) := by
  have hp : Value.pt5Of (ix2 a n) = (pt q 3).val := by
    show 4 * (16 * (a.val / 48 - 0) + 1 * (n.val / 512 - 0)) + 3 = 4 * q.val + 3
    omega
  have hl : Value.loc5Of (ix2 a n) = ix2 a l := by
    funext b
    match b with
    | ⟨0, _⟩ => exact Fin.ext (by show a.val % 48 = a.val; omega)
    | ⟨1, _⟩ => exact Fin.ext (by show n.val % 512 = l.val; omega)
  refine Eq.trans ?_ (run_apply m c q a l)
  have hlt : Value.pt5Of (ix2 a n) < cfg0.N := by rw [hp]; exact (pt q 3).isLt
  have hlt' : 0 + (pt q 3).val < cfg0.N := by rw [Nat.zero_add]; exact (pt q 3).isLt
  unfold Value.G5
  rw [dif_pos hlt, hl, Value.fold0_congr m c _ _ _ hlt' hp, ← Value.outsAt0_sweep m c (pt q 3).val (pt q 3).isLt]

end Cert.KernelIdeal.Hand

end
-- ==== Proof.Inputs.lean ====
module

public import proofs.«01_k».proof.Proof.Points
public import Idealize.ShloMosaic.Lib.Claim
public import Idealize.ShloMosaic.Lib.Pipeline.ValueKit.Geometry

/-! The blocks a grid point reads, in terms of the arguments. -/

@[expose] public section

noncomputable section

namespace Cert.KernelIdeal.Hand

open Idealize.ShloMosaic
open Idealize.ShloMosaic.TcCoe Idealize.ShloMosaic.ValueIdx Idealize.SL.Sem Cert.KernelIdeal Cert.KernelIdeal.Gen

/-- The index maps of the windows, at a grid point. -/
theorem idx : ∀ t : Fin cfg0.N, win0_0.index t = ![0, 0] ∧ win0_1.index t = ![t.val % 4, t.val / 4] ∧ win0_2.index t = ![t.val % 4, t.val / 4]
    ∧ win0_3.index t = ![t.val % 4, 0, t.val / 4] ∧ win0_4.index t = ![t.val % 4, t.val / 4] := by
  decide +kernel

variable (m : (ℓ : Loc nD τ sig) → Buf (Elt Ideal) ℓ) (c : Dev nD)

/-- The block of activations is the whole array. -/
theorem blk0 (t : Fin cfg0.N) (a : Fin 48) (j : Fin 16384) :
    iblk m c 0 t (ix2 a j) = V m c main_v0 (ix2 a j) := by
  have h := (idx t).1
  blk_ext [iblk, h]

/-- A block of low bits. -/
theorem blk1 (t : Fin cfg0.N) (r : Fin 2048) (l : Fin 512) (R L : Fin 8192) (hR : R.val = 2048 * (t.val % 4) + r.val) (hL : L.val = 512 * (t.val / 4) + l.val) :
    iblk m c 1 t (ix2 r l) = V m c main_v2 (ix2 R L) := by
  have h := (idx t).2.1
  blk_ext [iblk, h]
  · show t.val % 4 * 2048 + r.val = R.val; omega
  · show t.val / 4 * 512 + l.val = L.val; omega

/-- A block of high bits. -/
theorem blk2 (t : Fin cfg0.N) (r : Fin 1024) (l : Fin 512) (R : Fin 4096) (L : Fin 8192) (hR : R.val = 1024 * (t.val % 4) + r.val) (hL : L.val = 512 * (t.val / 4) + l.val) :
    iblk m c 2 t (ix2 r l) = V m c main_v4 (ix2 R L) := by
  have h := (idx t).2.2.1
  blk_ext [iblk, h]
  · show t.val % 4 * 1024 + r.val = R.val; omega
  · show t.val / 4 * 512 + l.val = L.val; omega

/-- A block of small scales. -/
theorem blk3 (t : Fin cfg0.N) (b k : Fin 16) (l : Fin 512) (B : Fin 64) (L : Fin 8192) (hB : B.val = 16 * (t.val % 4) + b.val) (hL : L.val = 512 * (t.val / 4) + l.val) :
    iblk m c 3 t (ix3 b k l) = V m c main_v5 (ix3 B k L) := by
  have h := (idx t).2.2.2.1
  blk_ext [iblk, h]
  · show t.val % 4 * 16 + b.val = B.val; omega
  · show t.val / 4 * 512 + l.val = L.val; omega

/-- A block of halves. -/
theorem blk4 (t : Fin cfg0.N) (b : Fin 16) (l : Fin 512) (B : Fin 64) (L : Fin 8192) (hB : B.val = 16 * (t.val % 4) + b.val) (hL : L.val = 512 * (t.val / 4) + l.val) :
    iblk m c 4 t (ix2 b l) = V m c main_v6 (ix2 B L) := by
  have h := (idx t).2.2.2.2
  blk_ext [iblk, h]
  · show t.val % 4 * 16 + b.val = B.val; omega
  · show t.val / 4 * 512 + l.val = L.val; omega

/-- The activations as rows. -/
theorem in0 (a : Fin 48) (j : Fin 16384) : V m c main_v0 (ix2 a j) = m ((c : Thread nD τ).loc main_arg0) (ix3 a 0 j) := by
  entry_read
  refine (shapeCast_apply _ _ (ix2 a j) (ix3 a 0 j) ?_).trans rfl
  refine (Shape.rowMajor_val_three _).trans ((Shape.rowMajor_val_two _).trans ?_).symm
  show a.val * 16384 + j.val = (a.val * 1 + 0) * 16384 + j.val
  omega

/-- The low bits, one column per output. -/
theorem in1 (R L : Fin 8192) : V m c main_v2 (ix2 R L) = m ((c : Thread nD τ).loc main_arg1) (ix4 L ⟨R.val / 128, by omega⟩ ⟨R.val / 64 % 2, by omega⟩ ⟨R.val % 64, by omega⟩) := by
  entry_read
  refine (shapeCast_apply _ _ (ix2 R L) (ix4 ⟨R.val / 128, by omega⟩ ⟨R.val / 64 % 2, by omega⟩ ⟨R.val % 64, by omega⟩ L) ?_).trans ?_
  · refine (Shape.rowMajor_val_four _).trans ((Shape.rowMajor_val_two _).trans ?_).symm
    show R.val * 8192 + L.val = (((R.val / 128) * 2 + R.val / 64 % 2) * 64 + R.val % 64) * 8192 + L.val
    omega
  · unfold transpose
    exact congrArg (m ((c : Thread nD τ).loc main_arg1)) (by
      funext b
      match b with
      | ⟨0, _⟩ => rfl
      | ⟨1, _⟩ => rfl
      | ⟨2, _⟩ => rfl
      | ⟨3, _⟩ => rfl)

/-- The high bits, one column per output. -/
theorem in2 (R : Fin 4096) (L : Fin 8192) : V m c main_v4 (ix2 R L) = m ((c : Thread nD τ).loc main_arg2) (ix4 L ⟨R.val / 64, by omega⟩ ⟨R.val / 32 % 2, by omega⟩ ⟨R.val % 32, by omega⟩) := by
  entry_read
  refine (shapeCast_apply _ _ (ix2 R L) (ix4 ⟨R.val / 64, by omega⟩ ⟨R.val / 32 % 2, by omega⟩ ⟨R.val % 32, by omega⟩ L) ?_).trans ?_
  · refine (Shape.rowMajor_val_four _).trans ((Shape.rowMajor_val_two _).trans ?_).symm
    show R.val * 8192 + L.val = (((R.val / 64) * 2 + R.val / 32 % 2) * 32 + R.val % 32) * 8192 + L.val
    omega
  · unfold transpose
    exact congrArg (m ((c : Thread nD τ).loc main_arg2)) (by
      funext b
      match b with
      | ⟨0, _⟩ => rfl
      | ⟨1, _⟩ => rfl
      | ⟨2, _⟩ => rfl
      | ⟨3, _⟩ => rfl)

/-- The small scales, one column per output. -/
theorem in3 (B : Fin 64) (k : Fin 16) (L : Fin 8192) : V m c main_v5 (ix3 B k L) = m ((c : Thread nD τ).loc main_arg3) (ix3 L B k) := by
  entry_read
  unfold transpose
  exact congrArg (m ((c : Thread nD τ).loc main_arg3)) (by
      funext b
      match b with
      | ⟨0, _⟩ => rfl
      | ⟨1, _⟩ => rfl
      | ⟨2, _⟩ => rfl)

/-- The halves, one column per output. -/
theorem in4 (B : Fin 64) (L : Fin 8192) : V m c main_v6 (ix2 B L) = m ((c : Thread nD τ).loc main_arg4) (ix2 L B) := by
  entry_read
  unfold transpose
  exact congrArg (m ((c : Thread nD τ).loc main_arg4)) (by
      funext b
      match b with
      | ⟨0, _⟩ => rfl
      | ⟨1, _⟩ => rfl)

end Cert.KernelIdeal.Hand

end
-- ==== Proof.Reference.lean ====
module

public import proofs.«01_k».proof.Proof.Gen.ReferenceIdeal.Value
public import proofs.«01_k».proof.Proof.Byte
public import Idealize.ShloMosaic.Lib.MatmulPlain

/-! What the reference computes, read at an index: a sum over blocks, halves and columns of activations times
    codes less 32 times scales. -/

@[expose] public section

noncomputable section

namespace Cert.ReferenceIdeal.Hand

open Idealize.ShloMosaic Idealize.ShloMosaic.ValueIdx Cert.ReferenceIdeal Cert.ReferenceIdeal.Gen Cert.Codes

/-- The dot's three contracted axes: a block, a half and a column. -/
def contrEquiv : (Fin 64 × Fin 2 × Fin 128) ≃ dot_S48x64x2x128_S8192x64x2x128_S48x8192_231_231_0_0_n_n.contr.Idx where
  toFun p := fun a => match a with
    | ⟨0, _⟩ => p.2.1
    | ⟨1, _⟩ => p.2.2
    | ⟨2, _⟩ => p.1
    | ⟨n + 3, h⟩ => absurd h (Nat.not_lt.2 (Nat.le_add_left 3 n))
  invFun k := (k ⟨2, by decide⟩, k ⟨0, by decide⟩, k ⟨1, by decide⟩)
  left_inv p := rfl
  right_inv k := by
    funext a
    match a with
    | ⟨0, _⟩ => rfl
    | ⟨1, _⟩ => rfl
    | ⟨2, _⟩ => rfl
    | ⟨n + 3, h⟩ => exact absurd h (Nat.not_lt.2 (Nat.le_add_left 3 n))

/-- Where the dot reads its left operand. -/
theorem lhs_idx (a : Fin 48) (n : Fin 8192) (p : Fin 64 × Fin 2 × Fin 128) :
    dot_S48x64x2x128_S8192x64x2x128_S48x8192_231_231_0_0_n_n.lhsIdx (ix2 a n) (contrEquiv p) = ix4 a p.1 p.2.1 p.2.2 := by
  funext b
  match b with
  | ⟨0, _⟩ => rfl
  | ⟨1, _⟩ => rfl
  | ⟨2, _⟩ => rfl
  | ⟨3, _⟩ => rfl

/-- Where the dot reads its right operand. -/
theorem rhs_idx (a : Fin 48) (n : Fin 8192) (p : Fin 64 × Fin 2 × Fin 128) :
    dot_S48x64x2x128_S8192x64x2x128_S48x8192_231_231_0_0_n_n.rhsIdx (ix2 a n) (contrEquiv p) = ix4 n p.1 p.2.1 p.2.2 := by
  funext b
  match b with
  | ⟨0, _⟩ => rfl
  | ⟨1, _⟩ => rfl
  | ⟨2, _⟩ => rfl
  | ⟨3, _⟩ => rfl

/-- The sum of products. -/
theorem pay1_apply (x : Vec Ideal S48x1x16384 .bf16) (e : FVec Ideal S8192x64x2x8 .bf16) (w : FVec Ideal S8192x64x2x128 .bf16) (a : Fin 48) (n : Fin 8192) :
    k0_pay1 (F := Ideal) x e w (ix2 a n)
      = ∑ p : Fin 64 × Fin 2 × Fin 128, x (ix3 a 0 ⟨256 * p.1.val + 128 * p.2.1.val + p.2.2.val, by omega⟩)
          * ((w (ix4 n p.1 p.2.1 p.2.2) - Ideal.ofBits .bf16 0x4200#16) * e (ix4 n p.1 p.2.1 ⟨p.2.2.val / 16, by omega⟩)) := by
  unfold k0_pay1
  refine (Ideal.matmul_apply (φ₁ := .bf16) (φ₂ := .bf16) dot_S48x64x2x128_S8192x64x2x128_S48x8192_231_231_0_0_n_n none _ _ _ (ix2 a n)).trans ?_
  have hz : (constant (F := Ideal) S48x8192 .f32 0x00000000#32 (ix2 a n) : EReal) = 0 := by
    show Ideal.ofBits .f32 0x00000000#32 = 0
    simp [Ideal.ofBits, Ideal.ieee]
  rw [hz, zero_add]
  refine (Equiv.sum_comp contrEquiv _).symm.trans (Finset.sum_congr rfl fun p _ => ?_)
  rw [lhs_idx, rhs_idx]
  obtain ⟨b, h, j⟩ := p
  refine congrArg₂ (· * ·) ?_ ?_
  · refine shapeCast_apply _ _ (ix4 a b h j) (ix3 a 0 ⟨256 * b.val + 128 * h.val + j.val, by omega⟩) ?_
    refine (Shape.rowMajor_val_three _).trans ((Shape.rowMajor_val_four _).trans ?_).symm
    show ((a.val * 64 + b.val) * 2 + h.val) * 128 + j.val = (a.val * 1 + 0) * 16384 + (256 * b.val + 128 * h.val + j.val)
    omega
  · refine (shapeCast_apply _ _ (ix4 n b h j) (ix5 n b h ⟨j.val / 16, by omega⟩ ⟨j.val % 16, by omega⟩) ?_).trans ?_
    · refine (Shape.rowMajor_val_five _).trans ((Shape.rowMajor_val_four _).trans ?_).symm
      show ((n.val * 64 + b.val) * 2 + h.val) * 128 + j.val = (((n.val * 64 + b.val) * 2 + h.val) * 8 + j.val / 16) * 16 + j.val % 16
      omega
    · refine congrArg₂ (· * ·) ?_ ?_
      · refine (shapeCast_apply _ _ (ix5 n b h ⟨j.val / 16, by omega⟩ ⟨j.val % 16, by omega⟩) (ix4 n b h j) ?_).trans rfl
        refine (Shape.rowMajor_val_four _).trans ((Shape.rowMajor_val_five _).trans ?_).symm
        show (((n.val * 64 + b.val) * 2 + h.val) * 8 + j.val / 16) * 16 + j.val % 16 = ((n.val * 64 + b.val) * 2 + h.val) * 128 + j.val
        omega
      · refine (broadcastTo_apply _ _ (ix5 n b h ⟨j.val / 16, by omega⟩ ⟨j.val % 16, by omega⟩) (ix5 n b h ⟨j.val / 16, by omega⟩ 0) ?_).trans ?_
        · intro q
          match q with
          | ⟨0, _⟩ => rfl
          | ⟨1, _⟩ => rfl
          | ⟨2, _⟩ => rfl
          | ⟨3, _⟩ => rfl
          | ⟨4, _⟩ => rfl
        · refine shapeCast_apply _ _ (ix5 n b h ⟨j.val / 16, by omega⟩ 0) (ix4 n b h ⟨j.val / 16, by omega⟩) ?_
          refine (Shape.rowMajor_val_four _).trans ((Shape.rowMajor_val_five _).trans ?_).symm
          show (((n.val * 64 + b.val) * 2 + h.val) * 8 + j.val / 16) * 1 + 0 = ((n.val * 64 + b.val) * 2 + h.val) * 8 + j.val / 16
          omega

/-- The scales. -/
theorem pay2_apply (s : Vec Ideal S8192x64x16 .i8) (d : Vec Ideal S8192x64 .i16) (n : Fin 8192) (b : Fin 64) (h : Fin 2) (g : Fin 8) :
    k0_pay2 (F := Ideal) s d (ix4 n b h g) = Ideal.ofBits .f16 (d (ix2 n b)) * (((s (ix3 n b ⟨8 * h.val + g.val, by omega⟩)).toInt : ℝ) : EReal) := by
  unfold k0_pay2
  refine (shapeCast_apply _ _ (ix4 n b h g) (ix3 n b ⟨8 * h.val + g.val, by omega⟩) ?_).trans ?_
  · refine (Shape.rowMajor_val_three _).trans ((Shape.rowMajor_val_four _).trans ?_).symm
    show ((n.val * 64 + b.val) * 2 + h.val) * 8 + g.val = (n.val * 64 + b.val) * 16 + (8 * h.val + g.val)
    omega
  · refine congrArg (fun z : EReal => z * (((s (ix3 n b ⟨8 * h.val + g.val, by omega⟩)).toInt : ℝ) : EReal)) ?_
    refine (broadcastTo_apply _ _ (ix3 n b ⟨8 * h.val + g.val, by omega⟩) (ix3 n b 0) ?_).trans ?_
    · intro q
      match q with
      | ⟨0, _⟩ => rfl
      | ⟨1, _⟩ => rfl
      | ⟨2, _⟩ => rfl
    · refine (shapeCast_apply _ _ (ix3 n b 0) (ix2 n b) ?_).trans rfl
      refine (Shape.rowMajor_val_two _).trans ((Shape.rowMajor_val_three _).trans ?_).symm
      show (n.val * 64 + b.val) * 1 + 0 = n.val * 64 + b.val
      omega

/-- A pair of arrays side by side on the last axis, at an index of the left one. -/
theorem cat_left {k : Nat} {α : Type} (x y : (⟨4, ![8192, 64, 2, k]⟩ : Shape).Idx → α) (hc) (n : Fin 8192) (b : Fin 64) (h : Fin 2) (p : Fin k) :
    concatenate ⟨4, ![8192, 64, 2, k + k]⟩ 3 [⟨⟨4, ![8192, 64, 2, k]⟩, x⟩, ⟨⟨4, ![8192, 64, 2, k]⟩, y⟩] hc (ix4 n b h ⟨p.val, by omega⟩) = x (ix4 n b h p) :=
  concatenate_pair_apply_left 3 x y hc _ rfl (ix4 n b h p) (fun q => by
    match q with
    | ⟨0, _⟩ => rfl
    | ⟨1, _⟩ => rfl
    | ⟨2, _⟩ => rfl
    | ⟨3, _⟩ => rfl)

/-- At an index of the right one. -/
theorem cat_right {k : Nat} {α : Type} (x y : (⟨4, ![8192, 64, 2, k]⟩ : Shape).Idx → α) (hc) (n : Fin 8192) (b : Fin 64) (h : Fin 2) (p : Fin k) :
    concatenate ⟨4, ![8192, 64, 2, k + k]⟩ 3 [⟨⟨4, ![8192, 64, 2, k]⟩, x⟩, ⟨⟨4, ![8192, 64, 2, k]⟩, y⟩] hc (ix4 n b h ⟨k + p.val, by omega⟩) = y (ix4 n b h p) :=
  concatenate_pair_apply_right 3 x y hc _ rfl rfl (ix4 n b h p) (fun q hq => by
    match q with
    | ⟨0, _⟩ => rfl
    | ⟨1, _⟩ => rfl
    | ⟨2, _⟩ => rfl
    | ⟨3, _⟩ => exact absurd rfl hq) (Nat.add_comm _ _)

/-- The codes: column `32 f + p` is field `f` of its bytes. -/
theorem pay3_apply (ql : Vec Ideal S8192x64x2x64 .i8) (qh : Vec Ideal S8192x64x2x32 .i8) (n : Fin 8192) (b : Fin 64) (h : Fin 2) (f : Fin 4) (p : Fin 32) :
    k0_pay3 (F := Ideal) ql qh (ix4 n b h ⟨32 * f.val + p.val, by omega⟩)
      = (((refCode f (ql (ix4 n b h ⟨p.val, by omega⟩)) (ql (ix4 n b h ⟨32 + p.val, by omega⟩)) (qh (ix4 n b h p))).toInt : ℝ) : EReal) := by
  unfold k0_pay3
  refine congrArg (fun z : BitVec 32 => ((z.toInt : ℝ) : EReal)) ?_
  match f with
  | ⟨0, _⟩ =>
    refine (congrArg _ (show (ix4 n b h ⟨32 * 0 + p.val, by omega⟩ : S8192x64x2x128.Idx) = ix4 n b h ⟨(⟨p.val, by omega⟩ : Fin 64).val, by omega⟩ from ?_)).trans
      ((cat_left (k := 64) _ _ concatenates_S8192x64x2x64_S8192x64x2x64_S8192x64x2x128_d3 n b h ⟨p.val, by omega⟩).trans ?_)
    · exact congrArg (ix4 n b h) (Fin.ext (by show 32 * 0 + p.val = p.val; omega))
    · refine congrArg (fun z : BitVec 32 => ((ql (ix4 n b h ⟨p.val, by omega⟩)).setWidth 32 &&& 15#32) ||| ((z &&& 3#32) <<< 4)) ?_
      exact cat_left (k := 32) _ _ concatenates_S8192x64x2x32_S8192x64x2x32_S8192x64x2x64_d3 n b h p
  | ⟨1, _⟩ =>
    refine (congrArg _ (show (ix4 n b h ⟨32 * 1 + p.val, by omega⟩ : S8192x64x2x128.Idx) = ix4 n b h ⟨(⟨32 + p.val, by omega⟩ : Fin 64).val, by omega⟩ from ?_)).trans
      ((cat_left (k := 64) _ _ concatenates_S8192x64x2x64_S8192x64x2x64_S8192x64x2x128_d3 n b h ⟨32 + p.val, by omega⟩).trans ?_)
    · exact congrArg (ix4 n b h) (Fin.ext (by show 32 * 1 + p.val = 32 + p.val; omega))
    · refine congrArg (fun z : BitVec 32 => ((ql (ix4 n b h ⟨32 + p.val, by omega⟩)).setWidth 32 &&& 15#32) ||| ((z &&& 3#32) <<< 4)) ?_
      exact cat_right (k := 32) _ _ concatenates_S8192x64x2x32_S8192x64x2x32_S8192x64x2x64_d3 n b h p
  | ⟨2, _⟩ =>
    refine (congrArg _ (show (ix4 n b h ⟨32 * 2 + p.val, by omega⟩ : S8192x64x2x128.Idx) = ix4 n b h ⟨64 + (⟨p.val, by omega⟩ : Fin 64).val, by omega⟩ from ?_)).trans
      ((cat_right (k := 64) _ _ concatenates_S8192x64x2x64_S8192x64x2x64_S8192x64x2x128_d3 n b h ⟨p.val, by omega⟩).trans ?_)
    · exact congrArg (ix4 n b h) (Fin.ext (by show 32 * 2 + p.val = 64 + p.val; omega))
    · refine congrArg (fun z : BitVec 32 => ((ql (ix4 n b h ⟨p.val, by omega⟩)).setWidth 32).sshiftRight 4 ||| ((z.sshiftRight 4 &&& 3#32) <<< 4)) ?_
      exact cat_left (k := 32) _ _ concatenates_S8192x64x2x32_S8192x64x2x32_S8192x64x2x64_d3 n b h p
  | ⟨3, _⟩ =>
    refine (congrArg _ (show (ix4 n b h ⟨32 * 3 + p.val, by omega⟩ : S8192x64x2x128.Idx) = ix4 n b h ⟨64 + (⟨32 + p.val, by omega⟩ : Fin 64).val, by omega⟩ from ?_)).trans
      ((cat_right (k := 64) _ _ concatenates_S8192x64x2x64_S8192x64x2x64_S8192x64x2x128_d3 n b h ⟨32 + p.val, by omega⟩).trans ?_)
    · exact congrArg (ix4 n b h) (Fin.ext (by show 32 * 3 + p.val = 64 + (32 + p.val); omega))
    · refine congrArg (fun z : BitVec 32 => ((ql (ix4 n b h ⟨32 + p.val, by omega⟩)).setWidth 32).sshiftRight 4 ||| ((z.sshiftRight 4 &&& 3#32) <<< 4)) ?_
      exact cat_right (k := 32) _ _ concatenates_S8192x64x2x32_S8192x64x2x32_S8192x64x2x64_d3 n b h p

end Cert.ReferenceIdeal.Hand

end
-- ==== Proof.Terms.lean ====
module

public import proofs.«01_k».proof.Proof.Reference
public import proofs.«01_k».proof.Proof.Half

/-! One product of the sum both programs compute, as a function of the arguments, and the reference as a sum of them. -/

@[expose] public section

noncomputable section

namespace Cert.Terms

open Idealize.ShloMosaic Idealize.ShloMosaic.ValueIdx Cert.Codes

/-- Indices with equal coordinates are equal, for three axes. -/
theorem ix3_congr {p q r : Nat} {a a' : Fin p} {b b' : Fin q} {c c' : Fin r} (ha : a = a') (hb : b = b') (hc : c = c') : ix3 a b c = ix3 a' b' c' := by
  subst ha hb hc; rfl

/-- Indices with equal coordinates are equal, for four axes. -/
theorem ix4_congr {p q r s : Nat} {a a' : Fin p} {b b' : Fin q} {c c' : Fin r} {d d' : Fin s} (ha : a = a') (hb : b = b') (hc : c = c') (hd : d = d') :
    ix4 a b c d = ix4 a' b' c' d' := by
  subst ha hb hc hd; rfl

/-- The weight of column `j` of half `h` of block `b`: its code less 32, times the block's half, times the scale of the column's group. -/
def scaled (ql : Vec Ideal ⟨4, ![8192, 64, 2, 64]⟩ .i8) (qh : Vec Ideal ⟨4, ![8192, 64, 2, 32]⟩ .i8) (s : Vec Ideal ⟨3, ![8192, 64, 16]⟩ .i8)
    (d : Vec Ideal ⟨2, ![8192, 64]⟩ .i16) (n : Fin 8192) (b : Fin 64) (h : Fin 2) (j : Fin 128) : EReal :=
  ((((((code ⟨j.val / 32, by omega⟩ (ql (ix4 n b h ⟨j.val % 32, by omega⟩)) (ql (ix4 n b h ⟨32 + j.val % 32, by omega⟩))
      (qh (ix4 n b h ⟨j.val % 32, by omega⟩))).toNat : ℤ) - 32 : ℤ) : ℝ) : EReal)
    * (Ideal.ofBits .f16 (d (ix2 n b)) * (((s (ix3 n b ⟨8 * h.val + j.val / 16, by omega⟩)).toInt : ℝ) : EReal)))

/-- One product: an activation times its weight. -/
def term (x : Vec Ideal ⟨3, ![48, 1, 16384]⟩ .bf16) (ql : Vec Ideal ⟨4, ![8192, 64, 2, 64]⟩ .i8) (qh : Vec Ideal ⟨4, ![8192, 64, 2, 32]⟩ .i8)
    (s : Vec Ideal ⟨3, ![8192, 64, 16]⟩ .i8) (d : Vec Ideal ⟨2, ![8192, 64]⟩ .i16) (a : Fin 48) (n : Fin 8192) (b : Fin 64) (h : Fin 2) (j : Fin 128) : EReal :=
  x (ix3 a 0 ⟨256 * b.val + 128 * h.val + j.val, by omega⟩) * scaled ql qh s d n b h j

/-- The constant the codes are lowered by is 32. -/
theorem thirtytwo : Ideal.ofBits .bf16 0x4200#16 = ((32 : ℝ) : EReal) := by
  simp [Ideal.ofBits, Ideal.ieee, -EReal.coe_mul]
  norm_num

/-- A quarter. -/
theorem quarter : Ideal.ofBits .f32 0x3E800000#32 = ((1 / 4 : ℝ) : EReal) := by
  simp [Ideal.ofBits, Ideal.ieee, -EReal.coe_mul]
  norm_num

/-- The difference of two reals, taken among the extended reals. -/
theorem code_sub (z : ℤ) : ((z : ℝ) : EReal) - ((32 : ℝ) : EReal) = (((z - 32 : ℤ) : ℝ) : EReal) := by
  rw [← EReal.coe_sub]
  refine congrArg Real.toEReal ?_
  push_cast
  rfl

/-- Four times a code, its scale, and a quarter of the block's half make the weight. -/
theorem weight_eq (z : ℤ) (y : ℝ) (D : EReal) :
    (((4 * z : ℤ) : ℝ) : EReal) * ((y : EReal) * (D * ((1 / 4 : ℝ) : EReal))) = ((z : ℝ) : EReal) * (D * (y : EReal)) := by
  have h : (((4 * z : ℤ) : ℝ) : EReal) * ((1 / 4 : ℝ) : EReal) = ((z : ℝ) : EReal) := by
    rw [← EReal.coe_mul]
    refine congrArg Real.toEReal ?_
    push_cast
    ring
  rw [← h]
  ac_rfl

/-- The reference is the sum of the products over blocks, halves and columns. -/
theorem reference_apply (x : Vec Ideal ⟨3, ![48, 1, 16384]⟩ .bf16) (ql : Vec Ideal ⟨4, ![8192, 64, 2, 64]⟩ .i8) (qh : Vec Ideal ⟨4, ![8192, 64, 2, 32]⟩ .i8)
    (s : Vec Ideal ⟨3, ![8192, 64, 16]⟩ .i8) (d : Vec Ideal ⟨2, ![8192, 64]⟩ .i16) (a : Fin 48) (n : Fin 8192) :
    Cert.ReferenceIdeal.Value.G5 (F := Ideal) x ql qh s d (ix2 a n) = ∑ p : Fin 64 × Fin 2 × Fin 128, term x ql qh s d a n p.1 p.2.1 p.2.2 := by
  refine (Cert.ReferenceIdeal.Hand.pay1_apply x _ _ a n).trans (Finset.sum_congr rfl fun p _ => ?_)
  obtain ⟨b, h, j⟩ := p
  dsimp only
  unfold term scaled
  refine congrArg₂ (fun u v : EReal => u * v) rfl ?_
  refine congrArg₂ (fun u v : EReal => u * v) ?_ (Cert.ReferenceIdeal.Hand.pay2_apply s d n b h ⟨j.val / 16, by omega⟩)
  rw [thirtytwo, ← code_sub]
  refine congrArg (fun u : EReal => u - ((32 : ℝ) : EReal)) ?_
  refine (congrArg _ (ix4_congr (d' := ⟨32 * (j.val / 32) + j.val % 32, by omega⟩) rfl rfl rfl (Fin.ext (Nat.div_add_mod _ _).symm))).trans ?_
  refine (Cert.ReferenceIdeal.Hand.pay3_apply ql qh n b h ⟨j.val / 32, by omega⟩ ⟨j.val % 32, by omega⟩).trans ?_
  rw [toInt_refCode]

/-- A sum over 64 blocks, 16 at a time. -/
theorem sum_blocks (f : Fin 64 → EReal) : ∑ kb : Fin 4, ∑ k : Fin 16, f ⟨16 * kb.val + k.val, by omega⟩ = ∑ b : Fin 64, f b := by
  rw [← Equiv.sum_comp (finProdFinEquiv : Fin 4 × Fin 16 ≃ Fin 64) f, Fintype.sum_prod_type]
  refine Finset.sum_congr rfl fun kb _ => Finset.sum_congr rfl fun k _ => congrArg f (Fin.ext ?_)
  show 16 * kb.val + k.val = k.val + 16 * kb.val
  omega

/-- A sum over a block's 256 columns, by halves. -/
theorem sum_columns (f : Fin 2 × Fin 128 → EReal) : ∑ r : Fin 256, f (⟨r.val / 128, by omega⟩, ⟨r.val % 128, by omega⟩) = ∑ p : Fin 2 × Fin 128, f p :=
  Equiv.sum_comp (finProdFinEquiv : Fin 2 × Fin 128 ≃ Fin 256).symm f

/-- The whole sum, regrouped. -/
theorem sum_all (f : Fin 64 → Fin 2 → Fin 128 → EReal) :
    ∑ kb : Fin 4, ∑ k : Fin 16, ∑ r : Fin 256, f ⟨16 * kb.val + k.val, by omega⟩ ⟨r.val / 128, by omega⟩ ⟨r.val % 128, by omega⟩
      = ∑ p : Fin 64 × Fin 2 × Fin 128, f p.1 p.2.1 p.2.2 := by
  rw [Fintype.sum_prod_type, ← sum_blocks]
  exact Finset.sum_congr rfl fun kb _ => Finset.sum_congr rfl fun k _ => sum_columns fun p => f ⟨16 * kb.val + k.val, by omega⟩ p.1 p.2

end Cert.Terms

end
-- ==== Proof.Equation.lean ====
module

public import proofs.«01_k».proof.Proof.Fold
public import proofs.«01_k».proof.Proof.Inputs
public import proofs.«01_k».proof.Proof.Terms
public import proofs.«01_k».proof.Proof.Gen.Pre_no_negative_nan

/-! The equation: the kernel's result array holds the sums of products that the reference's does. -/

@[expose] public section

noncomputable section

namespace Cert.KernelIdeal.Hand

open Idealize.ShloMosaic
open Idealize.ShloMosaic.TcCoe Idealize.ShloMosaic.ValueIdx Idealize.SL.Sem Cert.KernelIdeal Cert.KernelIdeal.Gen Cert.Codes Cert.Terms

/-- The small scales of block `n`, at an index. -/
theorem small_apply (x3 : Vec Ideal S16x16x512 .i8) (n k : Fin 16) (l : Fin 512) : small x3 n (ix3 0 k l) = x3 (ix3 n k l) := by
  unfold small
  refine View.ld_unit_apply_of x3 ![n.val, 0, 0] S1x16x512.size (small_inb n) (ix3 0 k l) (ix3 n k l) fun b => ?_
  match b with
  | ⟨0, _⟩ => rfl
  | ⟨1, _⟩ => exact (Nat.zero_add _).symm
  | ⟨2, _⟩ => exact (Nat.zero_add _).symm

variable (m : (ℓ : Loc nD τ sig) → Buf (Elt Ideal) ℓ) (c : Dev nD)

/-- The kernel's weight of one row, in terms of the arguments: the weight of the reference. -/
theorem weight_apply (hd : ∀ (n : Fin 8192) (b : Fin 64), ((m ((c : Thread nD τ).loc main_arg4) (ix2 n b) : BitVec 16).sle 64512#16
      || (0#16).sle (m ((c : Thread nD τ).loc main_arg4) (ix2 n b) : BitVec 16)) = true)
    (t : Fin cfg0.N) (kb : Fin 4) (hkb : kb.val = t.val % 4) (k : Fin 16) (h : Fin 2) (f : Fin 4) (g : Fin 2) (u : Fin 16) (l : Fin 512)
    (n : Fin 8192) (hn : n.val = 512 * (t.val / 4) + l.val) (j : Fin 128) (hj : j.val = 32 * f.val + 16 * g.val + u.val) :
    weight (iblk m c 1 t) (iblk m c 2 t) (k0_pay50 (F := Ideal) (iblk m c 4 t)) (small (iblk m c 3 t)) k h f g u l
      = scaled (m ((c : Thread nD τ).loc main_arg1)) (m ((c : Thread nD τ).loc main_arg2)) (m ((c : Thread nD τ).loc main_arg3))
          (m ((c : Thread nD τ).loc main_arg4)) n ⟨16 * kb.val + k.val, by omega⟩ h j := by
  unfold weight scaled
  have hA : iblk m c 1 t (ix2 ⟨128 * k.val + 64 * h.val + (16 * g.val + u.val), by omega⟩ l)
      = m ((c : Thread nD τ).loc main_arg1) (ix4 n ⟨16 * kb.val + k.val, by omega⟩ h ⟨j.val % 32, by omega⟩) := by
    refine (blk1 m c t _ l ⟨2048 * kb.val + (128 * k.val + 64 * h.val + (16 * g.val + u.val)), by omega⟩ n (by show _ = _ + _; dsimp only; omega) hn).trans ((in1 m c _ n).trans ?_)
    exact congrArg _ (ix4_congr rfl (Fin.ext (by dsimp only; omega)) (Fin.ext (by dsimp only; omega)) (Fin.ext (by dsimp only; omega)))
  have hB : iblk m c 1 t (ix2 ⟨128 * k.val + 64 * h.val + 32 + (16 * g.val + u.val), by omega⟩ l)
      = m ((c : Thread nD τ).loc main_arg1) (ix4 n ⟨16 * kb.val + k.val, by omega⟩ h ⟨32 + j.val % 32, by omega⟩) := by
    refine (blk1 m c t _ l ⟨2048 * kb.val + (128 * k.val + 64 * h.val + 32 + (16 * g.val + u.val)), by omega⟩ n (by show _ = _ + _; dsimp only; omega) hn).trans ((in1 m c _ n).trans ?_)
    exact congrArg _ (ix4_congr rfl (Fin.ext (by dsimp only; omega)) (Fin.ext (by dsimp only; omega)) (Fin.ext (by dsimp only; omega)))
  have hQ : iblk m c 2 t (ix2 ⟨64 * k.val + 32 * h.val + (16 * g.val + u.val), by omega⟩ l)
      = m ((c : Thread nD τ).loc main_arg2) (ix4 n ⟨16 * kb.val + k.val, by omega⟩ h ⟨j.val % 32, by omega⟩) := by
    refine (blk2 m c t _ l ⟨1024 * kb.val + (64 * k.val + 32 * h.val + (16 * g.val + u.val)), by omega⟩ n (by show _ = _ + _; dsimp only; omega) hn).trans ((in2 m c _ n).trans ?_)
    exact congrArg _ (ix4_congr rfl (Fin.ext (by dsimp only; omega)) (Fin.ext (by dsimp only; omega)) (Fin.ext (by dsimp only; omega)))
  have hS : small (iblk m c 3 t) k (ix3 0 ⟨8 * h.val + 2 * f.val + g.val, by omega⟩ l)
      = m ((c : Thread nD τ).loc main_arg3) (ix3 n ⟨16 * kb.val + k.val, by omega⟩ ⟨8 * h.val + j.val / 16, by omega⟩) := by
    refine (small_apply (iblk m c 3 t) k _ l).trans ((blk3 m c t k _ l ⟨16 * kb.val + k.val, by omega⟩ n (by dsimp only; omega) hn).trans ((in3 m c _ _ n).trans ?_))
    exact congrArg _ (ix3_congr rfl rfl (Fin.ext (by dsimp only; omega)))
  have hD : k0_pay50 (F := Ideal) (iblk m c 4 t) (ix2 k l)
      = Ideal.ofBits .f16 (m ((c : Thread nD τ).loc main_arg4) (ix2 n ⟨16 * kb.val + k.val, by omega⟩)) * ((1 / 4 : ℝ) : EReal) := by
    refine (pay50_apply (iblk m c 4 t) k l).trans ?_
    rw [quarter]
    refine congrArg (fun z : EReal => z * ((1 / 4 : ℝ) : EReal)) ?_
    refine (congrArg Cert.Half.decoded ((blk4 m c t k l ⟨16 * kb.val + k.val, by omega⟩ n (by dsimp only; omega) hn).trans (in4 m c _ n))).trans ?_
    exact Cert.Half.decoded_eq _ (hd n _)
  have hf : (⟨j.val / 32, by omega⟩ : Fin 4) = f := Fin.ext (by dsimp only; omega)
  rw [hf]
  refine (congrArg₂ (fun u v : EReal => u * v) (codes_congr f _ _ _ _ _ _ hA hB hQ)
    (congrArg₂ (fun (s : BitVec 8) (v : EReal) => ((s.toInt : ℝ) : EReal) * v) hS hD)).trans ?_
  exact weight_eq _ _ _

/-- THE KERNEL'S RESULT at an index: the sum of the products over blocks, halves and columns. -/
theorem kernel_apply (hd : ∀ (n : Fin 8192) (b : Fin 64), ((m ((c : Thread nD τ).loc main_arg4) (ix2 n b) : BitVec 16).sle 64512#16
      || (0#16).sle (m ((c : Thread nD τ).loc main_arg4) (ix2 n b) : BitVec 16)) = true) (a : Fin 48) (n : Fin 8192) :
    Value.G5 m c (ix2 a n) = (∑ p : Fin 64 × Fin 2 × Fin 128, term (m ((c : Thread nD τ).loc main_arg0)) (m ((c : Thread nD τ).loc main_arg1))
      (m ((c : Thread nD τ).loc main_arg2)) (m ((c : Thread nD τ).loc main_arg3)) (m ((c : Thread nD τ).loc main_arg4)) a n p.1 p.2.1 p.2.2 : EReal) := by
  refine (result_apply m c a n ⟨n.val / 512, by omega⟩ ⟨n.val % 512, by omega⟩ (by dsimp only; omega)).trans ?_
  refine Eq.trans (α := EReal) ?_ (sum_all (term (m ((c : Thread nD τ).loc main_arg0)) (m ((c : Thread nD τ).loc main_arg1))
      (m ((c : Thread nD τ).loc main_arg2)) (m ((c : Thread nD τ).loc main_arg3)) (m ((c : Thread nD τ).loc main_arg4)) a n))
  refine Finset.sum_congr (M := EReal) rfl fun kb _ => ?_
  unfold pointAdd pointSum
  refine Finset.sum_congr rfl fun k _ => ?_
  unfold tripSum
  refine Finset.sum_congr rfl fun r _ => ?_
  unfold term
  have ht : (pt ⟨n.val / 512, by omega⟩ kb).val = 4 * (n.val / 512) + kb.val := rfl
  refine congrArg₂ (fun u v : EReal => u * v) ?_ ?_
  · refine (blk0 m c _ a _).trans ((in0 m c a _).trans ?_)
    exact congrArg _ (ix3_congr rfl rfl (Fin.ext (by dsimp only; omega)))
  · refine weight_apply m c hd _ kb (by rw [ht]; omega) k _ _ _ _ _ n (by rw [ht]; dsimp only; omega) _ (by dsimp only; omega)

/-- The precondition, read at an index. -/
theorem half_ok (x0 : FVec Ideal Cert.Pre_no_negative_nan.S48x1x16384 .bf16) (x1 : IVec Cert.Pre_no_negative_nan.S8192x64x2x64 8)
    (x2 : IVec Cert.Pre_no_negative_nan.S8192x64x2x32 8) (x3 : IVec Cert.Pre_no_negative_nan.S8192x64x16 8) (x4 : IVec Cert.Pre_no_negative_nan.S8192x64 16)
    (h : Cert.Pre_no_negative_nan.fn (F := Ideal) x0 x1 x2 x3 x4 = fun _ => 1#1) (n : Fin 8192) (b : Fin 64) :
    ((x4 (ix2 n b)).sle 64512#16 || (0#16).sle (x4 (ix2 n b))) = true := by
  have e := congrFun h (ix2 n b)
  have e' : IntOp.cmpi .sge (x4 (ix2 n b)) 0#16 ||| IntOp.cmpi .sle (x4 (ix2 n b)) 64512#16 = 1#1 := e
  generalize x4 (ix2 n b) = w at e'
  unfold IntOp.cmpi at e'
  cases h1 : w.sle 64512#16 <;> cases h2 : (0#16).sle w <;> simp_all

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_no_negative_nan
public import proofs.«01_k».proof.Proof.Gen.KernelIdeal.Value
public import proofs.«01_k».proof.Proof.Gen.ReferenceIdeal.Value
public import proofs.«01_k».proof.Proof.Equation
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic Idealize.SL.Sem Cert.Kernel

/-- Every rewrite the idealization made is one of its rule's: the word scratch re-declared as pairs of halves, the packed
    words, and the words read and stored by halves. -/
theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _⟩

/-- Over the extended reals the kernel and the reference end with the same result array: both hold, at row `a` and column `n`, the
    sum of the products of activations and weights. -/
theorem algebraic : Cert.algebraic_KernelIdeal_ReferenceIdeal_pre_no_negative_nan := by
  intro m g m' g' hpre hagree
  refine ⟨fun c => Cert.KernelIdeal.Value.G5 m c, Cert.KernelIdeal.Value.run m g, ?_⟩
  refine (θ_run Cert.ReferenceIdeal.defs _ _).mono (fun r h c => ⟨(h c).1.trans ?_, (h c).2⟩) (Cert.ReferenceIdeal.Value.run m' g')
  obtain ⟨e0, e1, e2, e3, e4⟩ := hagree c
  rw [e0, e1, e2, e3, e4]
  funext i
  obtain ⟨a, n, rfl⟩ : ∃ (a : Fin 48) (n : Fin 8192), i = ValueIdx.ix2 a n :=
    ⟨i 0, i 1, by funext b; match b with | ⟨0, _⟩ => rfl | ⟨1, _⟩ => rfl⟩
  exact (Cert.Terms.reference_apply _ _ _ _ _ a n).trans
    (Cert.KernelIdeal.Hand.kernel_apply m c (Cert.KernelIdeal.Hand.half_ok _ _ _ _ _ (hpre c)) a n).symm

theorem claim : Cert.Claim := ⟨Cert.Kernel.Gen.facts, Cert.KernelIdeal.Gen.facts, Cert.ReferenceIdeal.Gen.facts, Cert.Pre_no_negative_nan.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, algebraic⟩

end Cert.Proof

end
